-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S512x336x21 : Shape := ⟨3, ![512, 336, 21]⟩
abbrev S21 : Shape := ⟨1, ![21]⟩
abbrev S336x256 : Shape := ⟨2, ![336, 256]⟩
abbrev S256x8 : Shape := ⟨2, ![256, 8]⟩
abbrev S8x256x336 : Shape := ⟨3, ![8, 256, 336]⟩
abbrev S8x256 : Shape := ⟨2, ![8, 256]⟩
abbrev S_ : Shape := ⟨0, ![]⟩

class Facts : Prop where
  bcast_S_S21 : S_.BroadcastsInDim S21 (![] : Fin 0 → Fin S21.rank)
  bcast_S_S8x256x336 : S_.BroadcastsInDim S8x256x336 (![] : Fin 0 → Fin S8x256x336.rank)

variable [Facts]

def fn {F : FTy → Type} [FloatOps F] (main_arg0 : FVec F S512x336x21 .f32) (main_arg1 : FVec F S21 .f32) (main_arg2 : FVec F S21 .f32) (main_arg3 : FVec F S336x256 .f32) (main_arg4 : FVec F S256x8 .f32) (main_arg5 : FVec F S8x256x336 .f32) (main_arg6 : FVec F S8x256 .f32) (main_arg7 : FVec F S8x256x336 .f32) (main_arg8 : FVec F S8x256 .f32) : IVec S21 1 × IVec S21 1 × IVec S8x256x336 1 × IVec S8x256x336 1 :=
  let main_v0 : FVec F S21 .f32 := Host.absf main_arg1
  let main_cst : FVec F S_ .f32 := constant S_ .f32 0x7F800000#32
  let main_v1 : FVec F S21 .f32 := broadcastInDim S21 ![] bcast_S_S21 main_cst
  let main_v2 : IVec S21 1 := cmpf .olt main_v0 main_v1
  let main_v3 : FVec F S21 .f32 := Host.absf main_arg2
  let main_cst_0 : FVec F S_ .f32 := constant S_ .f32 0x7F800000#32
  let main_v4 : FVec F S21 .f32 := broadcastInDim S21 ![] bcast_S_S21 main_cst_0
  let main_v5 : IVec S21 1 := cmpf .olt main_v3 main_v4
  let main_v6 : FVec F S8x256x336 .f32 := Host.absf main_arg5
  let main_cst_1 : FVec F S_ .f32 := constant S_ .f32 0x7F800000#32
  let main_v7 : FVec F S8x256x336 .f32 := broadcastInDim S8x256x336 ![] bcast_S_S8x256x336 main_cst_1
  let main_v8 : IVec S8x256x336 1 := cmpf .olt main_v6 main_v7
  let main_v9 : FVec F S8x256x336 .f32 := Host.absf main_arg7
  let main_cst_2 : FVec F S_ .f32 := constant S_ .f32 0x7F800000#32
  let main_v10 : FVec F S8x256x336 .f32 := broadcastInDim S8x256x336 ![] bcast_S_S8x256x336 main_cst_2
  let main_v11 : IVec S8x256x336 1 := cmpf .olt main_v9 main_v10
  (main_v2, main_v5, main_v8, main_v11)
-- ==== Kernel.lean ====
abbrev S512x336x21 : Shape := ⟨3, ![512, 336, 21]⟩
abbrev S21 : Shape := ⟨1, ![21]⟩
abbrev S336x256 : Shape := ⟨2, ![336, 256]⟩
abbrev S256x8 : Shape := ⟨2, ![256, 8]⟩
abbrev S8x256x336 : Shape := ⟨3, ![8, 256, 336]⟩
abbrev S8x256 : Shape := ⟨2, ![8, 256]⟩
abbrev S1344x64 : Shape := ⟨2, ![1344, 64]⟩
abbrev S25x336x336 : Shape := ⟨3, ![25, 336, 336]⟩
abbrev S_ : Shape := ⟨0, ![]⟩
abbrev S336x336 : Shape := ⟨2, ![336, 336]⟩
abbrev S336x672 : Shape := ⟨2, ![336, 672]⟩
abbrev S512x21x336 : Shape := ⟨3, ![512, 21, 336]⟩
abbrev S512x21x256 : Shape := ⟨3, ![512, 21, 256]⟩
abbrev S512x8 : Shape := ⟨2, ![512, 8]⟩
abbrev S1x1 : Shape := ⟨2, ![1, 1]⟩
abbrev S64x21x336 : Shape := ⟨3, ![64, 21, 336]⟩
abbrev S64x21x256 : Shape := ⟨3, ![64, 21, 256]⟩
abbrev S8x336x256 : Shape := ⟨3, ![8, 336, 256]⟩
abbrev S1x256x336 : Shape := ⟨3, ![1, 256, 336]⟩
abbrev S256x336 : Shape := ⟨2, ![256, 336]⟩
abbrev S256x672 : Shape := ⟨2, ![256, 672]⟩
abbrev S1x336x256 : Shape := ⟨3, ![1, 336, 256]⟩
abbrev S64x21 : Shape := ⟨2, ![64, 21]⟩
abbrev S64x21x1 : Shape := ⟨3, ![64, 21, 1]⟩
abbrev S1x21x1 : Shape := ⟨3, ![1, 21, 1]⟩
abbrev S64x336 : Shape := ⟨2, ![64, 336]⟩
abbrev S64x256 : Shape := ⟨2, ![64, 256]⟩
abbrev S64x8 : Shape := ⟨2, ![64, 8]⟩
abbrev S64 : Shape := ⟨1, ![64]⟩
abbrev S64x1 : Shape := ⟨2, ![64, 1]⟩
abbrev S1344x336 : Shape := ⟨2, ![1344, 336]⟩
abbrev S1344x8 : Shape := ⟨2, ![1344, 8]⟩
abbrev S1344x256 : Shape := ⟨2, ![1344, 256]⟩
abbrev S1344x1 : Shape := ⟨2, ![1344, 1]⟩
abbrev S8 : Shape := ⟨1, ![8]⟩
abbrev S1x8 : Shape := ⟨2, ![1, 8]⟩
abbrev S1 : Shape := ⟨1, ![1]⟩

abbrev nBuf : Space → Nat
  | .hbm => 43
  | .vmem => 16
  | .smem => 1
  | _ => 0

abbrev bufTy : (tb : Table) → Fin (tcTables nBuf tb) → BufTy
  | .hbm, ⟨0, _⟩ => ⟨S512x336x21, .f32⟩
  | .hbm, ⟨1, _⟩ => ⟨S21, .f32⟩
  | .hbm, ⟨2, _⟩ => ⟨S21, .f32⟩
  | .hbm, ⟨3, _⟩ => ⟨S336x256, .f32⟩
  | .hbm, ⟨4, _⟩ => ⟨S256x8, .f32⟩
  | .hbm, ⟨5, _⟩ => ⟨S8x256x336, .f32⟩
  | .hbm, ⟨6, _⟩ => ⟨S8x256, .f32⟩
  | .hbm, ⟨7, _⟩ => ⟨S8x256x336, .f32⟩
  | .hbm, ⟨8, _⟩ => ⟨S8x256, .f32⟩
  | .hbm, ⟨9, _⟩ => ⟨S1344x64, .f32⟩
  | .hbm, ⟨10, _⟩ => ⟨S25x336x336, .i32⟩
  | .hbm, ⟨11, _⟩ => ⟨S25x336x336, .i32⟩
  | .hbm, ⟨12, _⟩ => ⟨S25x336x336, .i32⟩
  | .hbm, ⟨13, _⟩ => ⟨S25x336x336, .i32⟩
  | .hbm, ⟨14, _⟩ => ⟨S_, .i32⟩
  | .hbm, ⟨15, _⟩ => ⟨S25x336x336, .i32⟩
  | .hbm, ⟨16, _⟩ => ⟨S25x336x336, .i32⟩
  | .hbm, ⟨17, _⟩ => ⟨S_, .i32⟩
  | .hbm, ⟨18, _⟩ => ⟨S25x336x336, .i32⟩
  | .hbm, ⟨19, _⟩ => ⟨S25x336x336, .i32⟩
  | .hbm, ⟨20, _⟩ => ⟨S_, .i32⟩
  | .hbm, ⟨21, _⟩ => ⟨S25x336x336, .i32⟩
  | .hbm, ⟨22, _⟩ => ⟨S25x336x336, .i32⟩
  | .hbm, ⟨23, _⟩ => ⟨S25x336x336, .i1⟩
  | .hbm, ⟨24, _⟩ => ⟨S25x336x336, .f32⟩
  | .hbm, ⟨25, _⟩ => ⟨S_, .f32⟩
  | .hbm, ⟨26, _⟩ => ⟨S336x336, .f32⟩
  | .hbm, ⟨27, _⟩ => ⟨S336x336, .i32⟩
  | .hbm, ⟨28, _⟩ => ⟨S336x336, .i32⟩
  | .hbm, ⟨29, _⟩ => ⟨S336x336, .i1⟩
  | .hbm, ⟨30, _⟩ => ⟨S336x336, .f32⟩
  | .hbm, ⟨31, _⟩ => ⟨S_, .f32⟩
  | .hbm, ⟨32, _⟩ => ⟨S336x336, .f32⟩
  | .hbm, ⟨33, _⟩ => ⟨S336x336, .f32⟩
  | .hbm, ⟨34, _⟩ => ⟨S336x336, .f32⟩
  | .hbm, ⟨35, _⟩ => ⟨S336x672, .f32⟩
  | .hbm, ⟨36, _⟩ => ⟨S_, .f32⟩
  | .hbm, ⟨37, _⟩ => ⟨S336x672, .f32⟩
  | .hbm, ⟨38, _⟩ => ⟨S336x672, .f32⟩
  | .hbm, ⟨39, _⟩ => ⟨S512x21x336, .f32⟩
  | .hbm, ⟨40, _⟩ => ⟨S512x21x256, .f32⟩
  | .hbm, ⟨41, _⟩ => ⟨S512x8, .f32⟩
  | .hbm, ⟨42, _⟩ => ⟨S1x1, .f32⟩
  | .local _ .vmem, ⟨0, _⟩ => ⟨S64x21x336, .f32⟩
  | .local _ .vmem, ⟨1, _⟩ => ⟨S64x21x336, .f32⟩
  | .local _ .vmem, ⟨2, _⟩ => ⟨S21, .f32⟩
  | .local _ .vmem, ⟨3, _⟩ => ⟨S21, .f32⟩
  | .local _ .vmem, ⟨4, _⟩ => ⟨S336x256, .f32⟩
  | .local _ .vmem, ⟨5, _⟩ => ⟨S256x8, .f32⟩
  | .local _ .vmem, ⟨6, _⟩ => ⟨S8x256x336, .f32⟩
  | .local _ .vmem, ⟨7, _⟩ => ⟨S8x256, .f32⟩
  | .local _ .vmem, ⟨8, _⟩ => ⟨S8x256x336, .f32⟩
  | .local _ .vmem, ⟨9, _⟩ => ⟨S8x256, .f32⟩
  | .local _ .vmem, ⟨10, _⟩ => ⟨S336x672, .f32⟩
  | .local _ .vmem, ⟨11, _⟩ => ⟨S1344x64, .f32⟩
  | .local _ .vmem, ⟨12, _⟩ => ⟨S64x21x256, .f32⟩
  | .local _ .vmem, ⟨13, _⟩ => ⟨S64x21x256, .f32⟩
  | .local _ .vmem, ⟨14, _⟩ => ⟨S512x8, .f32⟩
  | .local _ .vmem, ⟨15, _⟩ => ⟨S8x336x256, .f32⟩
  | .local _ .smem, ⟨0, _⟩ => ⟨S1x1, .f32⟩
  | _, _ => ⟨S512x336x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_scratch0 : Ref sig .tc := ⟨.vmem, 15, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c64_i32 : BitVec 32 := 64#32
  let v89 : BitVec 32 := Scalar.muli arg0 c64_i32
  let v90 : Index := Scalar.indexCast v89
  let c0_29 : Index := 0#32
  ![v90.toNat, 0]
def k0_cond2 (i : grid0.Coords) : BitVec 1 :=
  let arg0 : BitVec 32 := BitVec.ofNat 32 (i 0).val
  let c7_i32 : BitVec 32 := 7#32
  let v157 : BitVec 1 := Scalar.cmpi .eq arg0 c7_i32
  let v158 : BitVec 32 := Scalar.extui v157
  let c0_i32_66 : BitVec 32 := 0#32
  let v159 : BitVec 1 := Scalar.cmpi .ne v158 c0_i32_66
  v159

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x21x336 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S21 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S336x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256x336 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S336x672 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1344x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x21x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S512x336x21 : Shape := ⟨3, ![512, 336, 21]⟩
abbrev S21 : Shape := ⟨1, ![21]⟩
abbrev S336x256 : Shape := ⟨2, ![336, 256]⟩
abbrev S256x8 : Shape := ⟨2, ![256, 8]⟩
abbrev S8x256x336 : Shape := ⟨3, ![8, 256, 336]⟩
abbrev S8x256 : Shape := ⟨2, ![8, 256]⟩
abbrev S_ : Shape := ⟨0, ![]⟩
abbrev S512x21 : Shape := ⟨2, ![512, 21]⟩
abbrev S512x1x21 : Shape := ⟨3, ![512, 1, 21]⟩
abbrev S1x1x21 : Shape := ⟨3, ![1, 1, 21]⟩
abbrev S512x336 : Shape := ⟨2, ![512, 336]⟩
abbrev S512x256 : Shape := ⟨2, ![512, 256]⟩
abbrev S512x8 : Shape := ⟨2, ![512, 8]⟩
abbrev S512 : Shape := ⟨1, ![512]⟩
abbrev S512x1 : Shape := ⟨2, ![512, 1]⟩
abbrev S512x3 : Shape := ⟨2, ![512, 3]⟩
abbrev S512x2 : Shape := ⟨2, ![512, 2]⟩
abbrev S512x2x1 : Shape := ⟨3, ![512, 2, 1]⟩
abbrev S512x2x2 : Shape := ⟨3, ![512, 2, 2]⟩
abbrev S8 : Shape := ⟨1, ![8]⟩
abbrev S1 : Shape := ⟨1, ![1]⟩
abbrev S512x1x12x21 : Shape := ⟨4, ![512, 1, 12, 21]⟩
abbrev S512x12x21 : Shape := ⟨3, ![512, 12, 21]⟩
abbrev S512x360x21 : Shape := ⟨3, ![512, 360, 21]⟩
abbrev S512x361x21 : Shape := ⟨3, ![512, 361, 21]⟩
abbrev S512x21x336 : Shape := ⟨3, ![512, 21, 336]⟩
abbrev S8x336x256 : Shape := ⟨3, ![8, 336, 256]⟩
abbrev S512x21x8x256 : Shape := ⟨4, ![512, 21, 8, 256]⟩
abbrev S8x1x1x256 : Shape := ⟨4, ![8, 1, 1, 256]⟩
abbrev S8x512x21x256 : Shape := ⟨4, ![8, 512, 21, 256]⟩
abbrev S512x21x256 : Shape := ⟨3, ![512, 21, 256]⟩
abbrev S1x1 : Shape := ⟨2, ![1, 1]⟩

abbrev nBuf : Space → Nat
  | .hbm => 218
  | .vmem => 0
  | .smem => 0
  | _ => 0

abbrev hbmTy0_0 (i : Nat) : BufTy := match i % 128 with
  | 0 => ⟨S512x336x21, .f32⟩
  | 1 => ⟨S21, .f32⟩
  | 2 => ⟨S21, .f32⟩
  | 3 => ⟨S336x256, .f32⟩
  | 4 => ⟨S256x8, .f32⟩
  | 5 => ⟨S8x256x336, .f32⟩
  | 6 => ⟨S8x256, .f32⟩
  | 7 => ⟨S8x256x336, .f32⟩
  | 8 => ⟨S8x256, .f32⟩
  | 9 => ⟨S_, .f32⟩
  | 10 => ⟨S512x21, .f32⟩
  | 11 => ⟨S512x1x21, .f32⟩
  | 12 => ⟨S_, .f32⟩
  | 13 => ⟨S512x1x21, .f32⟩
  | 14 => ⟨S512x1x21, .f32⟩
  | 15 => ⟨S_, .i32⟩
  | 16 => ⟨S_, .f32⟩
  | 17 => ⟨S512x21, .f32⟩
  | 18 => ⟨S512x1x21, .f32⟩
  | 19 => ⟨S_, .f32⟩
  | 20 => ⟨S512x1x21, .f32⟩
  | 21 => ⟨S512x1x21, .f32⟩
  | 22 => ⟨S512x336x21, .f32⟩
  | 23 => ⟨S512x336x21, .f32⟩
  | 24 => ⟨S512x336x21, .f32⟩
  | 25 => ⟨S_, .f32⟩
  | 26 => ⟨S_, .f32⟩
  | 27 => ⟨S_, .f32⟩
  | 28 => ⟨S_, .f32⟩
  | 29 => ⟨S512x21, .f32⟩
  | 30 => ⟨S512x1x21, .f32⟩
  | 31 => ⟨S512x1x21, .f32⟩
  | 32 => ⟨S512x1x21, .f32⟩
  | 33 => ⟨S_, .f32⟩
  | 34 => ⟨S_, .i1⟩
  | 35 => ⟨S_, .f32⟩
  | 36 => ⟨S_, .f32⟩
  | 37 => ⟨S512x1x21, .f32⟩
  | 38 => ⟨S512x1x21, .f32⟩
  | 39 => ⟨S_, .f32⟩
  | 40 => ⟨S512x1x21, .f32⟩
  | 41 => ⟨S512x1x21, .f32⟩
  | 42 => ⟨S512x1x21, .f32⟩
  | 43 => ⟨S512x336x21, .f32⟩
  | 44 => ⟨S512x336x21, .f32⟩
  | 45 => ⟨S512x336x21, .f32⟩
  | 46 => ⟨S512x336x21, .f32⟩
  | 47 => ⟨S1x1x21, .f32⟩
  | 48 => ⟨S512x336x21, .f32⟩
  | 49 => ⟨S512x336x21, .f32⟩
  | 50 => ⟨S1x1x21, .f32⟩
  | 51 => ⟨S512x336x21, .f32⟩
  | 52 => ⟨S512x336x21, .f32⟩
  | 53 => ⟨S_, .f32⟩
  | 54 => ⟨S512x336, .f32⟩
  | 55 => ⟨S_, .f32⟩
  | 56 => ⟨S512x336, .f32⟩
  | 57 => ⟨S512x336, .f32⟩
  | 58 => ⟨S512x256, .f32⟩
  | 59 => ⟨S_, .f32⟩
  | 60 => ⟨S512x256, .f32⟩
  | 61 => ⟨S512x256, .f32⟩
  | 62 => ⟨S512x8, .f32⟩
  | 63 => ⟨S_, .f32⟩
  | 64 => ⟨S512, .f32⟩
  | 65 => ⟨S_, .f32⟩
  | 66 => ⟨S512, .f32⟩
  | 67 => ⟨S512, .f32⟩
  | 68 => ⟨S512x1, .f32⟩
  | 69 => ⟨S512x8, .f32⟩
  | 70 => ⟨S512x8, .f32⟩
  | 71 => ⟨S512x8, .f32⟩
  | 72 => ⟨S_, .f32⟩
  | 73 => ⟨S512, .f32⟩
  | 74 => ⟨S512x1, .f32⟩
  | 75 => ⟨S512x8, .f32⟩
  | 76 => ⟨S512x8, .f32⟩
  | 77 => ⟨S512x3, .f32⟩
  | 78 => ⟨S512x3, .i32⟩
  | 79 => ⟨S512x2, .f32⟩
  | 80 => ⟨S512x2, .i32⟩
  | 81 => ⟨S_, .f32⟩
  | 82 => ⟨S512, .f32⟩
  | 83 => ⟨S512x1, .f32⟩
  | 84 => ⟨S_, .f32⟩
  | 85 => ⟨S512x1, .f32⟩
  | 86 => ⟨S512x1, .f32⟩
  | 87 => ⟨S512x2, .f32⟩
  | 88 => ⟨S512x2, .f32⟩
  | 89 => ⟨S_, .f32⟩
  | 90 => ⟨S512x8, .f32⟩
  | 91 => ⟨S512, .i32⟩
  | 92 => ⟨S512x1, .i32⟩
  | 93 => ⟨S_, .i32⟩
  | 94 => ⟨S512x1, .i32⟩
  | 95 => ⟨S512x1, .i1⟩
  | 96 => ⟨S_, .i32⟩
  | 97 => ⟨S512x1, .i32⟩
  | 98 => ⟨S512x1, .i32⟩
  | 99 => ⟨S512x1, .i32⟩
  | 100 => ⟨S_, .i32⟩
  | 101 => ⟨S512x2, .i32⟩
  | 102 => ⟨S512x2, .i1⟩
  | 103 => ⟨S_, .i32⟩
  | 104 => ⟨S512x2, .i32⟩
  | 105 => ⟨S512x2, .i32⟩
  | 106 => ⟨S512x2, .i32⟩
  | 107 => ⟨S512x2, .i32⟩
  | 108 => ⟨S512x2x1, .i32⟩
  | 109 => ⟨S512x2x1, .i32⟩
  | 110 => ⟨S512x2x2, .i32⟩
  | 111 => ⟨S512x8, .f32⟩
  | 112 => ⟨S_, .f32⟩
  | 113 => ⟨S8, .f32⟩
  | 114 => ⟨S_, .f32⟩
  | 115 => ⟨S512x8, .f32⟩
  | 116 => ⟨S512x8, .i1⟩
  | 117 => ⟨S512x8, .i32⟩
  | 118 => ⟨S_, .i32⟩
  | 119 => ⟨S8, .i32⟩
  | 120 => ⟨S8, .f32⟩
  | 121 => ⟨S_, .i32⟩
  | 122 => ⟨S_, .f32⟩
  | 123 => ⟨S_, .f32⟩
  | 124 => ⟨S1, .f32⟩
  | 125 => ⟨S_, .f32⟩
  | 126 => ⟨S1, .f32⟩
  | 127 => ⟨S1, .f32⟩
  | _ => ⟨S512x336x21, .f32⟩

abbrev hbmTy0_1 (i : Nat) : BufTy := match i % 128 with
  | 0 => ⟨S8, .f32⟩
  | 1 => ⟨S8, .f32⟩
  | 2 => ⟨S8, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .i1⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .i32⟩
  | 23 => ⟨S_, .f32⟩
  | 24 => ⟨S_, .f32⟩
  | 25 => ⟨S1, .f32⟩
  | 26 => ⟨S_, .f32⟩
  | 27 => ⟨S1, .f32⟩
  | 28 => ⟨S1, .f32⟩
  | 29 => ⟨S8, .f32⟩
  | 30 => ⟨S8, .f32⟩
  | 31 => ⟨S8, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .i1⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S512x1x21, .f32⟩
  | 53 => ⟨S512x1x12x21, .f32⟩
  | 54 => ⟨S512x12x21, .f32⟩
  | 55 => ⟨S512x1x21, .f32⟩
  | 56 => ⟨S512x1x12x21, .f32⟩
  | 57 => ⟨S512x12x21, .f32⟩
  | 58 => ⟨S512x360x21, .f32⟩
  | 59 => ⟨S_, .f32⟩
  | 60 => ⟨S_, .f32⟩
  | 61 => ⟨S512x360x21, .f32⟩
  | 62 => ⟨S512x1x21, .f32⟩
  | 63 => ⟨S_, .f32⟩
  | 64 => ⟨S512x1x21, .f32⟩
  | 65 => ⟨S512x361x21, .f32⟩
  | 66 => ⟨S512x336x21, .f32⟩
  | 67 => ⟨S512x336x21, .f32⟩
  | 68 => ⟨S512x336x21, .f32⟩
  | 69 => ⟨S_, .f32⟩
  | 70 => ⟨S512x336x21, .f32⟩
  | 71 => ⟨S512x336x21, .f32⟩
  | 72 => ⟨S512x336x21, .f32⟩
  | 73 => ⟨S512x21x336, .f32⟩
  | 74 => ⟨S512x21x336, .f32⟩
  | 75 => ⟨S8x336x256, .f32⟩
  | 76 => ⟨S512x21x8x256, .f32⟩
  | 77 => ⟨S8x1x1x256, .f32⟩
  | 78 => ⟨S8x512x21x256, .f32⟩
  | 79 => ⟨S8x512x21x256, .f32⟩
  | 80 => ⟨S8x512x21x256, .f32⟩
  | 81 => ⟨S8x336x256, .f32⟩
  | 82 => ⟨S512x21x8x256, .f32⟩
  | 83 => ⟨S8x512x21x256, .f32⟩
  | 84 => ⟨S8x512x21x256, .f32⟩
  | 85 => ⟨S8x1x1x256, .f32⟩
  | 86 => ⟨S8x512x21x256, .f32⟩
  | 87 => ⟨S8x512x21x256, .f32⟩
  | 88 => ⟨S512x21x256, .f32⟩
  | 89 => ⟨S1x1, .f32⟩
  | _ => ⟨S512x336x21, .f32⟩

abbrev hbmTy (i : Nat) : BufTy := match i / 128 with
  | 0 => hbmTy0_0 i
  | 1 => hbmTy0_1 i
  | _ => ⟨S512x336x21, .f32⟩

abbrev bufTy : (tb : Table) → Fin (tcTables nBuf tb) → BufTy
  | .hbm, ⟨i, _⟩ => hbmTy i
  | _, _ => ⟨S512x336x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_cst_3 : Ref sig .tc := ⟨.hbm, 33, rfl⟩
abbrev main_call0_v13 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_2 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_call1_cst : Ref sig .tc := ⟨.hbm, 59, rfl⟩
abbrev main_call1_v0 : Ref sig .tc := ⟨.hbm, 60, rfl⟩
abbrev main_v22 : Ref sig .tc := ⟨.hbm, 61, rfl⟩
abbrev main_v23 : Ref sig .tc := ⟨.hbm, 62, rfl⟩
abbrev main_cst_4 : Ref sig .tc := ⟨.hbm, 63, rfl⟩
abbrev main_v24 : Ref sig .tc := ⟨.hbm, 64, rfl⟩
abbrev main_cst_5 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_6 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_values : Ref sig .tc := ⟨.hbm, 77, rfl⟩
abbrev main_indices : Ref sig .tc := ⟨.hbm, 78, rfl⟩
abbrev main_v35 : Ref sig .tc := ⟨.hbm, 79, rfl⟩
abbrev main_v36 : Ref sig .tc := ⟨.hbm, 80, rfl⟩
abbrev main_cst_7 : Ref sig .tc := ⟨.hbm, 81, rfl⟩
abbrev main_v37 : Ref sig .tc := ⟨.hbm, 82, rfl⟩
abbrev main_v38 : Ref sig .tc := ⟨.hbm, 83, rfl⟩
abbrev main_cst_8 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_9 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_c_10 : Ref sig .tc := ⟨.hbm, 93, rfl⟩
abbrev main_v46 : Ref sig .tc := ⟨.hbm, 94, rfl⟩
abbrev main_v47 : Ref sig .tc := ⟨.hbm, 95, rfl⟩
abbrev main_c_11 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_c_12 : Ref sig .tc := ⟨.hbm, 100, rfl⟩
abbrev main_v51 : Ref sig .tc := ⟨.hbm, 101, rfl⟩
abbrev main_v52 : Ref sig .tc := ⟨.hbm, 102, rfl⟩
abbrev main_c_13 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_14 : Ref sig .tc := ⟨.hbm, 112, rfl⟩
abbrev main_v61 : Ref sig .tc := ⟨.hbm, 113, rfl⟩
abbrev main_cst_15 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_c_16 : Ref sig .tc := ⟨.hbm, 118, rfl⟩
abbrev main_v65 : Ref sig .tc := ⟨.hbm, 119, rfl⟩
abbrev main_v66 : Ref sig .tc := ⟨.hbm, 120, rfl⟩
abbrev main_c_17 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_cst_1 : Ref sig .tc := ⟨.hbm, 132, rfl⟩
abbrev main_call2_v8 : Ref sig .tc := ⟨.hbm, 133, rfl⟩
abbrev main_call2_cst_2 : Ref sig .tc := ⟨.hbm, 134, rfl⟩
abbrev main_call2_v9 : Ref sig .tc := ⟨.hbm, 135, rfl⟩
abbrev main_call2_v10 : Ref sig .tc := ⟨.hbm, 136, rfl⟩
abbrev main_call2_cst_3 : Ref sig .tc := ⟨.hbm, 137, rfl⟩
abbrev main_call2_v11 : Ref sig .tc := ⟨.hbm, 138, rfl⟩
abbrev main_call2_cst_4 : Ref sig .tc := ⟨.hbm, 139, rfl⟩
abbrev main_call2_call0_v0 : Ref sig .tc := ⟨.hbm, 140, rfl⟩
abbrev main_v67 : Ref sig .tc := ⟨.hbm, 141, rfl⟩
abbrev main_cst_18 : Ref sig .tc := ⟨.hbm, 142, rfl⟩
abbrev main_v68 : Ref sig .tc := ⟨.hbm, 143, rfl⟩
abbrev main_cst_19 : Ref sig .tc := ⟨.hbm, 144, rfl⟩
abbrev main_v69 : Ref sig .tc := ⟨.hbm, 145, rfl⟩
abbrev main_v70 : Ref sig .tc := ⟨.hbm, 146, rfl⟩
abbrev main_cst_20 : Ref sig .tc := ⟨.hbm, 147, rfl⟩
abbrev main_v71 : Ref sig .tc := ⟨.hbm, 148, rfl⟩
abbrev main_v72 : Ref sig .tc := ⟨.hbm, 149, rfl⟩
abbrev main_c_21 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_cst_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_v7 : Ref sig .tc := ⟨.hbm, 160, rfl⟩
abbrev main_call3_cst_1 : Ref sig .tc := ⟨.hbm, 161, rfl⟩
abbrev main_call3_v8 : Ref sig .tc := ⟨.hbm, 162, rfl⟩
abbrev main_call3_cst_2 : Ref sig .tc := ⟨.hbm, 163, rfl⟩
abbrev main_call3_v9 : Ref sig .tc := ⟨.hbm, 164, rfl⟩
abbrev main_call3_v10 : Ref sig .tc := ⟨.hbm, 165, rfl⟩
abbrev main_call3_cst_3 : Ref sig .tc := ⟨.hbm, 166, rfl⟩
abbrev main_call3_v11 : Ref sig .tc := ⟨.hbm, 167, rfl⟩
abbrev main_call3_cst_4 : Ref sig .tc := ⟨.hbm, 168, rfl⟩
abbrev main_call3_call0_v0 : Ref sig .tc := ⟨.hbm, 169, rfl⟩
abbrev main_v73 : Ref sig .tc := ⟨.hbm, 170, rfl⟩
abbrev main_cst_22 : Ref sig .tc := ⟨.hbm, 171, rfl⟩
abbrev main_v74 : Ref sig .tc := ⟨.hbm, 172, rfl⟩
abbrev main_cst_23 : Ref sig .tc := ⟨.hbm, 173, rfl⟩
abbrev main_v75 : Ref sig .tc := ⟨.hbm, 174, rfl⟩
abbrev main_v76 : Ref sig .tc := ⟨.hbm, 175, rfl⟩
abbrev main_cst_24 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_call4_call0_cst : Ref sig .tc := ⟨.hbm, 187, rfl⟩
abbrev main_call4_call0_v0 : Ref sig .tc := ⟨.hbm, 188, rfl⟩
abbrev main_v87 : Ref sig .tc := ⟨.hbm, 189, rfl⟩
abbrev main_v88 : Ref sig .tc := ⟨.hbm, 190, rfl⟩
abbrev main_cst_25 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_cst_26 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩

abbrev nD : Nat := 1
abbrev τ : Topo := Topo.v7x

variable {F : FTy → Type} [FloatOps F]
-- ==== Proof.Out.lean ====
/-
  What one grid point of the kernel leaves: the folded weights, the gates of its 64 rows, its block of the result and the loss,
  as functions of the blocks that it is handed.
-/
module

public import proofs.«01_k».proof.Proof.Gen.KernelIdeal.Frame
public import proofs.«01_k».proof.Proof.Gen.KernelIdeal.Skeleton
public import Idealize.ShloMosaic.Lib.ValueIdx
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

/-- Slab `e` of the expert weights, kept as a block with a leading axis of one. -/
def wslab (w : Vec F S8x256x336 .f32) (e : Fin 8) : Vec F S1x256x336 .f32 := fun j => w (ix3 e (j 1) (j 2))

/-- Slab `e` of the folded weights, kept as a block with a leading axis of one. -/
def slab (W : Vec F S8x336x256 .f32) (e : Fin 8) : Vec F S1x336x256 .f32 := fun j => W (ix3 e (j 1) (j 2))

/-- The folded weights that the first grid point computes: expert `e` by the fold matrix times the two weight slabs side by side. -/
def weff (ws wt : Vec F S8x256x336 .f32) (g : Vec F S336x672 .f32) : Vec F S8x336x256 .f32 :=
  fun y => k0_pay1 (wslab ws (y 0)) (wslab wt (y 0)) g (ix3 0 (y 1) (y 2))

/-- The gates of the 64 rows of one grid point. -/
def gOut (x : Vec F S64x21x336 .f32) (rw rb : Vec F S21 .f32) (w1 : Vec F S336x256 .f32) (w2 : Vec F S256x8 .f32) : Vec F S64x8 .f32 :=
  k0_pay23 (k0_pay20 (k0_pay13 x rw rb w1) w2) (k0_pay21 (k0_pay13 x rw rb w1) w2) (Scalar.ofBits .f32 0x00000000#32)
    (k0_pay22 (k0_pay13 x rw rb w1) w2)

/-- The block of the result at one grid point, from the normalised block, its gates spread over the rows, the biases and the folded weights. -/
def yOut (x : Vec F S64x21x336 .f32) (rw rb : Vec F S21 .f32) (w1 : Vec F S336x256 .f32) (w2 : Vec F S256x8 .f32)
    (bs bt : Vec F S8x256 .f32) (rep : Vec F S1344x64 .f32) (W : Vec F S8x336x256 .f32) : Vec F S64x21x256 .f32 :=
  k0_pay27 (k0_pay24 (k0_pay12 x rw rb))
    (k0_pay25 (k0_pay20 (k0_pay13 x rw rb w1) w2) (k0_pay21 (k0_pay13 x rw rb w1) w2) (Scalar.ofBits .f32 0x00000000#32)
      (k0_pay22 (k0_pay13 x rw rb w1) w2) rep)
    (k0_pay26 (k0_pay12 x rw rb) (k0_pay20 (k0_pay13 x rw rb w1) w2) (k0_pay21 (k0_pay13 x rw rb w1) w2) (Scalar.ofBits .f32 0x00000000#32)
      (k0_pay22 (k0_pay13 x rw rb w1) w2) rep bs bt (slab W 0) (slab W 1) (slab W 2))
    (slab W 3) (slab W 4) (slab W 5) (slab W 6) (slab W 7)

/-- The gates array with the 64 rows from row `64 t` replaced. -/
def gNext (t : ℕ) (g : Vec F S512x8 .f32) (b : Vec F S64x8 .f32) : Vec F S512x8 .f32 :=
  fun y => if h : 64 * t ≤ (y 0).val ∧ (y 0).val < 64 * t + 64 then b (ix2 ⟨(y 0).val - 64 * t, by omega⟩ (y 1)) else g y

/-- The first grid point is the one that computes the folded weights. -/
abbrev isFirst (i : grid0.Coords) : Prop := (Scalar.cmpi .ne (Scalar.extui (Scalar.cmpi .eq (BitVec.ofNat 32 (i 0).val) 0#32)) 0#32) = 1#1

/-- The last grid point is the one that stores the loss. -/
abbrev isLast (i : grid0.Coords) : Prop := k0_cond2 i = 1#1

/-- A load of one slab of the expert weights. -/
theorem ld_wslab (w : Vec F S8x256x336 .f32) (e : Fin 8) (inb : ∀ a, (![e.val, 0, 0] : Fin 3 → ℕ) a + S1x256x336.size a ≤ S8x256x336.size a) :
    View.ld (Val := Elt F) w (Rect.unit (s := S8x256x336) ![e.val, 0, 0] S1x256x336.size inb) = wslab w e := by
  funext j
  refine congrArg w (funext fun a => Fin.ext ?_)
  have h0 : (j 0).val < 1 := (j 0).isLt
  fin_cases a
  · show e.val + 1 * (j 0).val = e.val; omega
  · show 0 + 1 * (j 1).val = (j 1).val; omega
  · show 0 + 1 * (j 2).val = (j 2).val; omega

/-- A load of one slab of the folded weights. -/
theorem ld_slab (W : Vec F S8x336x256 .f32) (e : Fin 8) (inb : ∀ a, (![e.val, 0, 0] : Fin 3 → ℕ) a + S1x336x256.size a ≤ S8x336x256.size a) :
    View.ld (Val := Elt F) W (Rect.unit (s := S8x336x256) ![e.val, 0, 0] S1x336x256.size inb) = slab W e := by
  funext j
  refine congrArg W (funext fun a => Fin.ext ?_)
  have h0 : (j 0).val < 1 := (j 0).isLt
  fin_cases a
  · show e.val + 1 * (j 0).val = e.val; omega
  · show 0 + 1 * (j 1).val = (j 1).val; omega
  · show 0 + 1 * (j 2).val = (j 2).val; omega

/-- A store of a whole buffer leaves what it stored. -/
theorem read_store_whole {sig : RefSig} {κ : Kind} {sp : Space} {s : Shape} {e : EltTy} {Val : EltTy → Type} (v : View sig κ sp s e)
    (f : v.ty.Contents Val) {off : Fin s.rank → ℕ} (inb : ∀ a, off a + s.size a ≤ s.size a) (w : s.Idx → Val e) (L : List (View.Piece Val s e))
    (h : ∀ a, off a = 0) : v.read Val (v.writes Val f (⟨Rect.unit off s.size inb, w⟩ :: L)) = w :=
  funext fun y => View.read_writes_cons_hit_of_coords v f (Rect.unit off s.size inb) w L y y fun a => by
    show (y a).val = off a + 1 * (y a).val
    rw [h]; omega

/-- The store of a point's 64 rows into the gates array. -/
theorem read_gates (m : Memref sig .tc .vmem S512x8 .f32) (hm : m.IsWhole) (i : grid0.Coords) (g : Vec F S512x8 .f32) (b : Vec F S64x8 .f32)
    (inb : ∀ a, k0_off1 i a + S64x8.size a ≤ S512x8.size a) :
    m.view.read (Elt F) (m.view.writes (Elt F) (hm.unread g) [⟨Rect.unit (s := S512x8) (k0_off1 i) S64x8.size inb, b⟩]) = gNext (i 0).val g b := by
  funext y
  unfold gNext
  have h0 : k0_off1 i 0 = 64 * (i 0).val := by rw [k0_off1_eq]; rfl
  have h1 : k0_off1 i 1 = 0 := by rw [k0_off1_eq]; rfl
  split
  · rename_i h
    refine View.read_writes_cons_hit_of_coords _ _ _ _ _ _ _ fun a => ?_
    fin_cases a
    · show (y 0).val = k0_off1 i 0 + 1 * ((y 0).val - 64 * (i 0).val); omega
    · show (y 1).val = k0_off1 i 1 + 1 * (y 1).val; omega
  · rename_i h
    rw [View.read_writes_cons_miss_of_axis _ _ _ _ y 0 (64 * (i 0).val) 64 h0 rfl rfl (by omega), View.writes_nil, hm.read_unread]

end Cert.KernelIdeal.Hand

end
-- ==== Proof.Fold.lean ====
/-
  The eight stores of the first grid point into its scratch, and that they leave the folded weights there.
-/
module

public import proofs.«01_k».proof.Proof.Out
public import Idealize.ShloMosaic.Lib.Pipeline.ReadBack
public import Idealize.ShloMosaic.Lib.Pipeline.ValueKit
public import Idealize.ShloMosaic.Lib.Tactic.Stretches
public import Idealize.ShloMosaic.Lib.Tactic.RunNames
public import Idealize.ShloMosaic.Lib.ValueIdx
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

/-- One slab's store is that slab of the folded weights. -/
theorem fold_piece (ws wt : Vec F S8x256x336 .f32) (g : Vec F S336x672 .f32) (e : Fin 8)
    (ia : ∀ a, (![e.val, 0, 0] : Fin 3 → ℕ) a + S1x256x336.size a ≤ S8x256x336.size a)
    (io : ∀ a, (![e.val, 0, 0] : Fin 3 → ℕ) a + S1x336x256.size a ≤ S8x336x256.size a) (x : S1x336x256.Idx) :
    k0_pay1 (View.ld (Val := Elt F) ws (Rect.unit (s := S8x256x336) ![e.val, 0, 0] S1x256x336.size ia))
      (View.ld (Val := Elt F) wt (Rect.unit (s := S8x256x336) ![e.val, 0, 0] S1x256x336.size ia)) g x
      = weff ws wt g ((Rect.unit (s := S8x336x256) ![e.val, 0, 0] S1x336x256.size io).emb x) := by
  rw [ld_wslab, ld_wslab]
  have h0 : (x 0).val < 1 := (x 0).isLt
  have hy : (Rect.unit (s := S8x336x256) ![e.val, 0, 0] S1x336x256.size io).emb x = ValueIdx.ix3 e (x 1) (x 2) := by
    refine Rect.emb_eq_of_coords _ _ _ fun a => ?_
    fin_cases a
    · show e.val = e.val + 1 * (x 0).val; omega
    · show (x 1).val = 0 + 1 * (x 1).val; omega
    · show (x 2).val = 0 + 1 * (x 2).val; omega
  rw [hy]
  show _ = k0_pay1 (wslab ws e) (wslab wt e) g (ValueIdx.ix3 0 (x 1) (x 2))
  refine congrArg _ (funext fun a => Fin.ext ?_)
  fin_cases a
  · show (x 0).val = 0; omega
  · rfl
  · rfl

/-- The stores, the last one first. -/
def foldStores (ws wt : Vec F S8x256x336 .f32) (g : Vec F S336x672 .f32) : List (View.Piece (Elt F) S8x336x256 .f32) :=
  [⟨Rect.unit (s := S8x336x256) ![7, 0, 0] S1x336x256.size inb_S8x336x256_S1x336x256_7_0_0, k0_pay11 (k0_pay9 (View.ld (Val := Elt F) ws (Rect.unit (s := S8x256x336) ![7, 0, 0] S1x256x336.size inb_S8x256x336_S1x256x336_7_0_0)) (View.ld (Val := Elt F) wt (Rect.unit (s := S8x256x336) ![7, 0, 0] S1x256x336.size inb_S8x256x336_S1x256x336_7_0_0))) g⟩,
    ⟨Rect.unit (s := S8x336x256) ![6, 0, 0] S1x336x256.size inb_S8x336x256_S1x336x256_6_0_0, k0_pay8 (View.ld (Val := Elt F) ws (Rect.unit (s := S8x256x336) ![6, 0, 0] S1x256x336.size inb_S8x256x336_S1x256x336_6_0_0)) (View.ld (Val := Elt F) wt (Rect.unit (s := S8x256x336) ![6, 0, 0] S1x256x336.size inb_S8x256x336_S1x256x336_6_0_0)) g⟩,
    ⟨Rect.unit (s := S8x336x256) ![5, 0, 0] S1x336x256.size inb_S8x336x256_S1x336x256_5_0_0, k0_pay7 (View.ld (Val := Elt F) ws (Rect.unit (s := S8x256x336) ![5, 0, 0] S1x256x336.size inb_S8x256x336_S1x256x336_5_0_0)) (View.ld (Val := Elt F) wt (Rect.unit (s := S8x256x336) ![5, 0, 0] S1x256x336.size inb_S8x256x336_S1x256x336_5_0_0)) g⟩,
    ⟨Rect.unit (s := S8x336x256) ![4, 0, 0] S1x336x256.size inb_S8x336x256_S1x336x256_4_0_0, k0_pay6 (View.ld (Val := Elt F) ws (Rect.unit (s := S8x256x336) ![4, 0, 0] S1x256x336.size inb_S8x256x336_S1x256x336_4_0_0)) (View.ld (Val := Elt F) wt (Rect.unit (s := S8x256x336) ![4, 0, 0] S1x256x336.size inb_S8x256x336_S1x256x336_4_0_0)) g⟩,
    ⟨Rect.unit (s := S8x336x256) ![3, 0, 0] S1x336x256.size inb_S8x336x256_S1x336x256_3_0_0, k0_pay5 (View.ld (Val := Elt F) ws (Rect.unit (s := S8x256x336) ![3, 0, 0] S1x256x336.size inb_S8x256x336_S1x256x336_3_0_0)) (View.ld (Val := Elt F) wt (Rect.unit (s := S8x256x336) ![3, 0, 0] S1x256x336.size inb_S8x256x336_S1x256x336_3_0_0)) g⟩,
    ⟨Rect.unit (s := S8x336x256) ![2, 0, 0] S1x336x256.size inb_S8x336x256_S1x336x256_2_0_0, k0_pay4 (k0_pay3 (View.ld (Val := Elt F) ws (Rect.unit (s := S8x256x336) ![2, 0, 0] S1x256x336.size inb_S8x256x336_S1x256x336_2_0_0)) (View.ld (Val := Elt F) wt (Rect.unit (s := S8x256x336) ![2, 0, 0] S1x256x336.size inb_S8x256x336_S1x256x336_2_0_0))) g⟩,
    ⟨Rect.unit (s := S8x336x256) ![1, 0, 0] S1x336x256.size inb_S8x336x256_S1x336x256_1_0_0, k0_pay2 (View.ld (Val := Elt F) ws (Rect.unit (s := S8x256x336) ![1, 0, 0] S1x256x336.size inb_S8x256x336_S1x256x336_1_0_0)) (View.ld (Val := Elt F) wt (Rect.unit (s := S8x256x336) ![1, 0, 0] S1x256x336.size inb_S8x256x336_S1x256x336_1_0_0)) g⟩,
    ⟨Rect.unit (s := S8x336x256) ![0, 0, 0] S1x336x256.size inb_S8x336x256_S1x336x256_0_0_0, k0_pay1 (View.ld (Val := Elt F) ws (Rect.unit (s := S8x256x336) ![0, 0, 0] S1x256x336.size inb_S8x256x336_S1x256x336_0_0_0)) (View.ld (Val := Elt F) wt (Rect.unit (s := S8x256x336) ![0, 0, 0] S1x256x336.size inb_S8x256x336_S1x256x336_0_0_0)) g⟩]

/-- Every store is a block of the folded weights. -/
theorem foldStores_pieces (ws wt : Vec F S8x256x336 .f32) (g : Vec F S336x672 .f32) : View.PiecesOf (weff ws wt g) (foldStores ws wt g) :=
  ⟨fun x => fold_piece ws wt g 7 inb_S8x256x336_S1x256x336_7_0_0 inb_S8x336x256_S1x336x256_7_0_0 x, fun x => fold_piece ws wt g 6 inb_S8x256x336_S1x256x336_6_0_0 inb_S8x336x256_S1x336x256_6_0_0 x, fun x => fold_piece ws wt g 5 inb_S8x256x336_S1x256x336_5_0_0 inb_S8x336x256_S1x336x256_5_0_0 x, fun x => fold_piece ws wt g 4 inb_S8x256x336_S1x256x336_4_0_0 inb_S8x336x256_S1x336x256_4_0_0 x, fun x => fold_piece ws wt g 3 inb_S8x256x336_S1x256x336_3_0_0 inb_S8x336x256_S1x336x256_3_0_0 x, fun x => fold_piece ws wt g 2 inb_S8x256x336_S1x256x336_2_0_0 inb_S8x336x256_S1x336x256_2_0_0 x, fun x => fold_piece ws wt g 1 inb_S8x256x336_S1x256x336_1_0_0 inb_S8x336x256_S1x336x256_1_0_0 x, fun x => fold_piece ws wt g 0 inb_S8x256x336_S1x256x336_0_0_0 inb_S8x336x256_S1x336x256_0_0_0 x, trivial⟩

/-- The stores cover the scratch. -/
theorem foldStores_cover (ws wt : Vec F S8x256x336 .f32) (g : Vec F S336x672 .f32) : ∀ y, ∃ p ∈ foldStores ws wt g, y ∈ p.1.set :=
  View.cover_of_tiled _ S1x336x256.size rfl

/-- What the scratch reads after the stores. -/
theorem read_foldStores (v : View sig .tc .vmem S8x336x256 .f32) (f : v.ty.Contents (Elt F)) (ws wt : Vec F S8x256x336 .f32) (g : Vec F S336x672 .f32) :
    v.read (Elt F) (v.writes (Elt F) f (foldStores ws wt g)) = weff ws wt g :=
  funext fun y => View.read_writes_apply_of_pieces v f _ _ (foldStores_pieces ws wt g).mem y (foldStores_cover ws wt g y)

/-- A load of one slab after the stores. -/
theorem readCov_foldStores (v : View sig .tc .vmem S8x336x256 .f32) (ws wt : Vec F S8x256x336 .f32) (g : Vec F S336x672 .f32) (r : Rect S8x336x256) :
    v.readCov (Val := Elt F) (foldStores ws wt g) r.toLoadRect = View.ld (weff ws wt g) r := by
  rw [View.readCov_eq_canon']
  funext j
  have := View.canon_append_of_piecesOf (weff ws wt g) [] _ (foldStores_pieces ws wt g) (r.toLoadRect.idx j) (foldStores_cover ws wt g _)
  rwa [List.append_nil] at this

end Cert.KernelIdeal.Hand

end
-- ==== Proof.RunA.lean ====
/-
  The first grid point, which also computes the folded weights.
-/
module

public import proofs.«01_k».proof.Proof.Fold
public import Idealize.ShloMosaic.Lib.Pipeline.ReadBack
public import Idealize.ShloMosaic.Lib.Pipeline.ValueKit
public import Idealize.ShloMosaic.Lib.Tactic.Stretches
public import Idealize.ShloMosaic.Lib.Tactic.RunNames
public import Idealize.ShloMosaic.Lib.ValueIdx
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

set_option maxHeartbeats 2000000 in
/-- What the first grid point leaves. -/
theorem runA (c : Dev nD) (i : grid0.Coords) (arg1 : Memref sig .tc .vmem S64x21x336 .f32) (harg1 : arg1.IsWhole) (arg2 : Memref sig .tc .vmem S21 .f32) (harg2 : arg2.IsWhole) (arg3 : Memref sig .tc .vmem S21 .f32) (harg3 : arg3.IsWhole) (arg4 : Memref sig .tc .vmem S336x256 .f32) (harg4 : arg4.IsWhole) (arg5 : Memref sig .tc .vmem S256x8 .f32) (harg5 : arg5.IsWhole) (arg6 : Memref sig .tc .vmem S8x256x336 .f32) (harg6 : arg6.IsWhole) (arg7 : Memref sig .tc .vmem S8x256 .f32) (harg7 : arg7.IsWhole) (arg8 : Memref sig .tc .vmem S8x256x336 .f32) (harg8 : arg8.IsWhole) (arg9 : Memref sig .tc .vmem S8x256 .f32) (harg9 : arg9.IsWhole) (arg10 : Memref sig .tc .vmem S336x672 .f32) (harg10 : arg10.IsWhole) (arg11 : Memref sig .tc .vmem S1344x64 .f32) (harg11 : arg11.IsWhole) (arg12 : Memref sig .tc .vmem S64x21x256 .f32) (harg12 : arg12.IsWhole) (arg13 : Memref sig .tc .vmem S512x8 .f32) (harg13 : arg13.IsWhole) (arg14 : Memref sig .tc .smem S1x1 .f32) (harg14 : arg14.IsWhole) (arg15 : Memref sig .tc .vmem S8x336x256 .f32) (harg15 : arg15.IsWhole) (hc0 : isFirst i) (hc1 : ¬isLast i)
    (x0 : Vec F S64x21x336 .f32) (x1 : Vec F S21 .f32) (x2 : Vec F S21 .f32) (x3 : Vec F S336x256 .f32) (x4 : Vec F S256x8 .f32) (x5 : Vec F S8x256x336 .f32) (x6 : Vec F S8x256 .f32) (x7 : Vec F S8x256x336 .f32) (x8 : Vec F S8x256 .f32) (x9 : Vec F S336x672 .f32) (x10 : Vec F S1344x64 .f32) (g : Vec F S512x8 .f32) : ∀ (E : Set ℕ) (K : PUnit → sProp 𝕄),
     iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10) ∗ (∃ d, owns (c : Thread nD τ) arg12 fullShare d) ∗ owns (c : Thread nD τ) arg13 fullShare g ∗ (∃ d, owns (c : Thread nD τ) arg14 fullShare d) ∗ (∃ d, owns (c : Thread nD τ) arg15 fullShare d)
       ∗ (iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10) ∗ owns (c : Thread nD τ) arg12 fullShare (yOut x0 x1 x2 x3 x4 x6 x8 x10 (weff x5 x7 x9)) ∗ owns (c : Thread nD τ) arg13 fullShare (gNext (i 0).val g (gOut x0 x1 x2 x3 x4)) ∗ (∃ d, owns (c : Thread nD τ) arg14 fullShare d) ∗ owns (c : Thread nD τ) arg15 fullShare (weff x5 x7 x9)) -∗ K ⟨⟩))
     ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__body_eq_skeleton]; unfold cc0__body_skel
    simp only [k0_part5_eq_skeleton, k0_part6_eq_skeleton, k0_part7_eq_skeleton, k0_part8_eq_skeleton, k0_part4_eq_skeleton, k0_part1_eq_skeleton, k0_part2_eq_skeleton, k0_part3_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%f12, %hf12, H12⟩, ⟨%d13, %f13, -, H13⟩, ⟨%ds0, %fs0, -, HS0⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg13.eq_unread hf12
    skip
    sl_exec (disch := first | sl_exact hc0 | sl_exact hc1)
    sl_step
    iapply Hk
    isplitl [H0 H1 H2 H3 H4 H5 H6 H7 H8 H9 H10]
    · isplitl [H0]
      · iexists _; isplitr
        · ipureintro; exact harg1.read_unread _
        · iexact H0
      isplitl [H1]
      · iexists _; isplitr
        · ipureintro; exact harg2.read_unread _
        · iexact H1
      isplitl [H2]
      · iexists _; isplitr
        · ipureintro; exact harg3.read_unread _
        · iexact H2
      isplitl [H3]
      · iexists _; isplitr
        · ipureintro; exact harg4.read_unread _
        · iexact H3
      isplitl [H4]
      · iexists _; isplitr
        · ipureintro; exact harg5.read_unread _
        · iexact H4
      isplitl [H5]
      · iexists _; isplitr
        · ipureintro; exact harg6.read_unread _
        · iexact H5
      isplitl [H6]
      · iexists _; isplitr
        · ipureintro; exact harg7.read_unread _
        · iexact H6
      isplitl [H7]
      · iexists _; isplitr
        · ipureintro; exact harg8.read_unread _
        · iexact H7
      isplitl [H8]
      · iexists _; isplitr
        · ipureintro; exact harg9.read_unread _
        · iexact H8
      isplitl [H9]
      · iexists _; isplitr
        · ipureintro; exact harg10.read_unread _
        · iexact H9
      iexists _; isplitr
      · ipureintro; exact harg11.read_unread _
      · iexact H10
    isplitl [H11]
    · iexists _; isplitr
      swap
      · iexact H11
      · ipureintro
        refine (read_store_whole _ _ _ _ _ (by decide)).trans ?_
        have hL : (runA.sl.HS0_8 c arg6 harg6 arg8 harg8 arg10 harg10 x5 x7 x9) = foldStores x5 x7 x9 := by
          sl_open_run
          simp (disch := decide) only [View.readAt_eq_ld, Memref.IsWhole.read_unread, View.ld_unit_lit]
          rfl
        sl_unfold_run_values
        rw [hL]
        simp (disch := decide) only [View.readAt_eq_ld, Memref.IsWhole.read_unread, View.ld_unit_lit, readCov_foldStores]
        rw [yOut, ← ld_slab (weff x5 x7 x9) 0 inb_S8x336x256_S1x336x256_0_0_0, ← ld_slab (weff x5 x7 x9) 1 inb_S8x336x256_S1x336x256_1_0_0, ← ld_slab (weff x5 x7 x9) 2 inb_S8x336x256_S1x336x256_2_0_0, ← ld_slab (weff x5 x7 x9) 3 inb_S8x336x256_S1x336x256_3_0_0, ← ld_slab (weff x5 x7 x9) 4 inb_S8x336x256_S1x336x256_4_0_0, ← ld_slab (weff x5 x7 x9) 5 inb_S8x336x256_S1x336x256_5_0_0, ← ld_slab (weff x5 x7 x9) 6 inb_S8x336x256_S1x336x256_6_0_0, ← ld_slab (weff x5 x7 x9) 7 inb_S8x336x256_S1x336x256_7_0_0]
        rfl
    isplitl [H12]
    · iexists _; isplitr
      swap
      · iexact H12
      · ipureintro
        refine (read_gates _ harg13 i g _ _).trans ?_
        sl_open_run
        simp (disch := decide) only [View.readAt_eq_ld, Memref.IsWhole.read_unread, View.ld_unit_lit]
        rfl
    isplitl [H13]
    · iexists _, f13; isplitr
      · ipureintro; rfl
      · iexact H13
    · iexists _; isplitr
      swap
      · iexact HS0
      · ipureintro
        sl_open_run
        simp (disch := decide) only [View.readAt_eq_ld, Memref.IsWhole.read_unread, View.ld_unit_lit]
        exact read_foldStores _ _ _ _ _

end Cert.KernelIdeal.Hand

end
-- ==== Proof.RunB.lean ====
/-
  A middle grid point: neither the first nor the last.
-/
module

public import proofs.«01_k».proof.Proof.Out
public import Idealize.ShloMosaic.Lib.Pipeline.ReadBack
public import Idealize.ShloMosaic.Lib.Pipeline.ValueKit
public import Idealize.ShloMosaic.Lib.Tactic.Stretches
public import Idealize.ShloMosaic.Lib.Tactic.RunNames
public import Idealize.ShloMosaic.Lib.ValueIdx
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

set_option maxHeartbeats 2000000 in
/-- What a middle grid point leaves. -/
theorem runB (c : Dev nD) (i : grid0.Coords) (arg1 : Memref sig .tc .vmem S64x21x336 .f32) (harg1 : arg1.IsWhole) (arg2 : Memref sig .tc .vmem S21 .f32) (harg2 : arg2.IsWhole) (arg3 : Memref sig .tc .vmem S21 .f32) (harg3 : arg3.IsWhole) (arg4 : Memref sig .tc .vmem S336x256 .f32) (harg4 : arg4.IsWhole) (arg5 : Memref sig .tc .vmem S256x8 .f32) (harg5 : arg5.IsWhole) (arg6 : Memref sig .tc .vmem S8x256x336 .f32) (harg6 : arg6.IsWhole) (arg7 : Memref sig .tc .vmem S8x256 .f32) (harg7 : arg7.IsWhole) (arg8 : Memref sig .tc .vmem S8x256x336 .f32) (harg8 : arg8.IsWhole) (arg9 : Memref sig .tc .vmem S8x256 .f32) (harg9 : arg9.IsWhole) (arg10 : Memref sig .tc .vmem S336x672 .f32) (harg10 : arg10.IsWhole) (arg11 : Memref sig .tc .vmem S1344x64 .f32) (harg11 : arg11.IsWhole) (arg12 : Memref sig .tc .vmem S64x21x256 .f32) (harg12 : arg12.IsWhole) (arg13 : Memref sig .tc .vmem S512x8 .f32) (harg13 : arg13.IsWhole) (arg14 : Memref sig .tc .smem S1x1 .f32) (harg14 : arg14.IsWhole) (arg15 : Memref sig .tc .vmem S8x336x256 .f32) (harg15 : arg15.IsWhole) (hc0 : ¬isFirst i) (hc1 : ¬isLast i)
    (x0 : Vec F S64x21x336 .f32) (x1 : Vec F S21 .f32) (x2 : Vec F S21 .f32) (x3 : Vec F S336x256 .f32) (x4 : Vec F S256x8 .f32) (x5 : Vec F S8x256x336 .f32) (x6 : Vec F S8x256 .f32) (x7 : Vec F S8x256x336 .f32) (x8 : Vec F S8x256 .f32) (x9 : Vec F S336x672 .f32) (x10 : Vec F S1344x64 .f32) (g : Vec F S512x8 .f32) (WW : Vec F S8x336x256 .f32) : ∀ (E : Set ℕ) (K : PUnit → sProp 𝕄),
     iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10) ∗ (∃ d, owns (c : Thread nD τ) arg12 fullShare d) ∗ owns (c : Thread nD τ) arg13 fullShare g ∗ (∃ d, owns (c : Thread nD τ) arg14 fullShare d) ∗ owns (c : Thread nD τ) arg15 fullShare WW
       ∗ (iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10) ∗ owns (c : Thread nD τ) arg12 fullShare (yOut x0 x1 x2 x3 x4 x6 x8 x10 WW) ∗ owns (c : Thread nD τ) arg13 fullShare (gNext (i 0).val g (gOut x0 x1 x2 x3 x4)) ∗ (∃ d, owns (c : Thread nD τ) arg14 fullShare d) ∗ owns (c : Thread nD τ) arg15 fullShare WW) -∗ K ⟨⟩))
     ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__body_eq_skeleton]; unfold cc0__body_skel
    simp only [k0_part5_eq_skeleton, k0_part6_eq_skeleton, k0_part7_eq_skeleton, k0_part8_eq_skeleton, k0_part4_eq_skeleton, k0_part1_eq_skeleton, k0_part2_eq_skeleton, k0_part3_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%f12, %hf12, H12⟩, ⟨%d13, %f13, -, H13⟩, ⟨%fs0, %hfs0, HS0⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg13.eq_unread hf12
    obtain rfl := harg15.eq_unread hfs0
    sl_exec (disch := first | sl_exact hc0 | sl_exact hc1)
    sl_step
    iapply Hk
    isplitl [H0 H1 H2 H3 H4 H5 H6 H7 H8 H9 H10]
    · isplitl [H0]
      · iexists _; isplitr
        · ipureintro; exact harg1.read_unread _
        · iexact H0
      isplitl [H1]
      · iexists _; isplitr
        · ipureintro; exact harg2.read_unread _
        · iexact H1
      isplitl [H2]
      · iexists _; isplitr
        · ipureintro; exact harg3.read_unread _
        · iexact H2
      isplitl [H3]
      · iexists _; isplitr
        · ipureintro; exact harg4.read_unread _
        · iexact H3
      isplitl [H4]
      · iexists _; isplitr
        · ipureintro; exact harg5.read_unread _
        · iexact H4
      isplitl [H5]
      · iexists _; isplitr
        · ipureintro; exact harg6.read_unread _
        · iexact H5
      isplitl [H6]
      · iexists _; isplitr
        · ipureintro; exact harg7.read_unread _
        · iexact H6
      isplitl [H7]
      · iexists _; isplitr
        · ipureintro; exact harg8.read_unread _
        · iexact H7
      isplitl [H8]
      · iexists _; isplitr
        · ipureintro; exact harg9.read_unread _
        · iexact H8
      isplitl [H9]
      · iexists _; isplitr
        · ipureintro; exact harg10.read_unread _
        · iexact H9
      iexists _; isplitr
      · ipureintro; exact harg11.read_unread _
      · iexact H10
    isplitl [H11]
    · iexists _; isplitr
      swap
      · iexact H11
      · ipureintro
        refine (read_store_whole _ _ _ _ _ (by decide)).trans ?_
        sl_open_run
        simp (disch := decide) only [View.readAt_eq_ld, Memref.IsWhole.read_unread, View.ld_unit_lit]
        rw [yOut, ← ld_slab WW 0 inb_S8x336x256_S1x336x256_0_0_0, ← ld_slab WW 1 inb_S8x336x256_S1x336x256_1_0_0, ← ld_slab WW 2 inb_S8x336x256_S1x336x256_2_0_0, ← ld_slab WW 3 inb_S8x336x256_S1x336x256_3_0_0, ← ld_slab WW 4 inb_S8x336x256_S1x336x256_4_0_0, ← ld_slab WW 5 inb_S8x336x256_S1x336x256_5_0_0, ← ld_slab WW 6 inb_S8x336x256_S1x336x256_6_0_0, ← ld_slab WW 7 inb_S8x336x256_S1x336x256_7_0_0]
        rfl
    isplitl [H12]
    · iexists _; isplitr
      swap
      · iexact H12
      · ipureintro
        refine (read_gates _ harg13 i g _ _).trans ?_
        sl_open_run
        simp (disch := decide) only [View.readAt_eq_ld, Memref.IsWhole.read_unread, View.ld_unit_lit]
        rfl
    isplitl [H13]
    · iexists _, f13; isplitr
      · ipureintro; rfl
      · iexact H13
    · iexists _; isplitr
      swap
      · iexact HS0
      · ipureintro
        exact harg15.read_unread _

end Cert.KernelIdeal.Hand

end
-- ==== Proof.RunC.lean ====
/-
  The last grid point, which also stores the loss.
-/
module

public import proofs.«01_k».proof.Proof.Out
public import Idealize.ShloMosaic.Lib.Pipeline.ReadBack
public import Idealize.ShloMosaic.Lib.Pipeline.ValueKit
public import Idealize.ShloMosaic.Lib.Tactic.Stretches
public import Idealize.ShloMosaic.Lib.Tactic.RunNames
public import Idealize.ShloMosaic.Lib.ValueIdx
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

set_option maxHeartbeats 2000000 in
/-- What the last grid point leaves. -/
theorem runC (c : Dev nD) (i : grid0.Coords) (arg1 : Memref sig .tc .vmem S64x21x336 .f32) (harg1 : arg1.IsWhole) (arg2 : Memref sig .tc .vmem S21 .f32) (harg2 : arg2.IsWhole) (arg3 : Memref sig .tc .vmem S21 .f32) (harg3 : arg3.IsWhole) (arg4 : Memref sig .tc .vmem S336x256 .f32) (harg4 : arg4.IsWhole) (arg5 : Memref sig .tc .vmem S256x8 .f32) (harg5 : arg5.IsWhole) (arg6 : Memref sig .tc .vmem S8x256x336 .f32) (harg6 : arg6.IsWhole) (arg7 : Memref sig .tc .vmem S8x256 .f32) (harg7 : arg7.IsWhole) (arg8 : Memref sig .tc .vmem S8x256x336 .f32) (harg8 : arg8.IsWhole) (arg9 : Memref sig .tc .vmem S8x256 .f32) (harg9 : arg9.IsWhole) (arg10 : Memref sig .tc .vmem S336x672 .f32) (harg10 : arg10.IsWhole) (arg11 : Memref sig .tc .vmem S1344x64 .f32) (harg11 : arg11.IsWhole) (arg12 : Memref sig .tc .vmem S64x21x256 .f32) (harg12 : arg12.IsWhole) (arg13 : Memref sig .tc .vmem S512x8 .f32) (harg13 : arg13.IsWhole) (arg14 : Memref sig .tc .smem S1x1 .f32) (harg14 : arg14.IsWhole) (arg15 : Memref sig .tc .vmem S8x336x256 .f32) (harg15 : arg15.IsWhole) (hc0 : ¬isFirst i) (hc1 : isLast i)
    (x0 : Vec F S64x21x336 .f32) (x1 : Vec F S21 .f32) (x2 : Vec F S21 .f32) (x3 : Vec F S336x256 .f32) (x4 : Vec F S256x8 .f32) (x5 : Vec F S8x256x336 .f32) (x6 : Vec F S8x256 .f32) (x7 : Vec F S8x256x336 .f32) (x8 : Vec F S8x256 .f32) (x9 : Vec F S336x672 .f32) (x10 : Vec F S1344x64 .f32) (g : Vec F S512x8 .f32) (WW : Vec F S8x336x256 .f32) : ∀ (E : Set ℕ) (K : PUnit → sProp 𝕄),
     iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10) ∗ (∃ d, owns (c : Thread nD τ) arg12 fullShare d) ∗ owns (c : Thread nD τ) arg13 fullShare g ∗ (∃ d, owns (c : Thread nD τ) arg14 fullShare d) ∗ owns (c : Thread nD τ) arg15 fullShare WW
       ∗ (iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10) ∗ owns (c : Thread nD τ) arg12 fullShare (yOut x0 x1 x2 x3 x4 x6 x8 x10 WW) ∗ owns (c : Thread nD τ) arg13 fullShare (gNext (i 0).val g (gOut x0 x1 x2 x3 x4)) ∗ owns (c : Thread nD τ) arg14 fullShare (fun _ => k0_pay10 (gNext (i 0).val g (gOut x0 x1 x2 x3 x4))) ∗ owns (c : Thread nD τ) arg15 fullShare WW) -∗ K ⟨⟩))
     ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__body_eq_skeleton]; unfold cc0__body_skel
    simp only [k0_part5_eq_skeleton, k0_part6_eq_skeleton, k0_part7_eq_skeleton, k0_part8_eq_skeleton, k0_part4_eq_skeleton, k0_part1_eq_skeleton, k0_part2_eq_skeleton, k0_part3_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%f12, %hf12, H12⟩, ⟨%d13, %f13, -, H13⟩, ⟨%fs0, %hfs0, HS0⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg13.eq_unread hf12
    obtain rfl := harg15.eq_unread hfs0
    sl_exec (disch := first | sl_exact hc0 | sl_exact hc1)
    sl_step
    iapply Hk
    isplitl [H0 H1 H2 H3 H4 H5 H6 H7 H8 H9 H10]
    · isplitl [H0]
      · iexists _; isplitr
        · ipureintro; exact harg1.read_unread _
        · iexact H0
      isplitl [H1]
      · iexists _; isplitr
        · ipureintro; exact harg2.read_unread _
        · iexact H1
      isplitl [H2]
      · iexists _; isplitr
        · ipureintro; exact harg3.read_unread _
        · iexact H2
      isplitl [H3]
      · iexists _; isplitr
        · ipureintro; exact harg4.read_unread _
        · iexact H3
      isplitl [H4]
      · iexists _; isplitr
        · ipureintro; exact harg5.read_unread _
        · iexact H4
      isplitl [H5]
      · iexists _; isplitr
        · ipureintro; exact harg6.read_unread _
        · iexact H5
      isplitl [H6]
      · iexists _; isplitr
        · ipureintro; exact harg7.read_unread _
        · iexact H6
      isplitl [H7]
      · iexists _; isplitr
        · ipureintro; exact harg8.read_unread _
        · iexact H7
      isplitl [H8]
      · iexists _; isplitr
        · ipureintro; exact harg9.read_unread _
        · iexact H8
      isplitl [H9]
      · iexists _; isplitr
        · ipureintro; exact harg10.read_unread _
        · iexact H9
      iexists _; isplitr
      · ipureintro; exact harg11.read_unread _
      · iexact H10
    isplitl [H11]
    · iexists _; isplitr
      swap
      · iexact H11
      · ipureintro
        refine (read_store_whole _ _ _ _ _ (by decide)).trans ?_
        sl_open_run
        simp (disch := decide) only [View.readAt_eq_ld, Memref.IsWhole.read_unread, View.ld_unit_lit]
        rw [yOut, ← ld_slab WW 0 inb_S8x336x256_S1x336x256_0_0_0, ← ld_slab WW 1 inb_S8x336x256_S1x336x256_1_0_0, ← ld_slab WW 2 inb_S8x336x256_S1x336x256_2_0_0, ← ld_slab WW 3 inb_S8x336x256_S1x336x256_3_0_0, ← ld_slab WW 4 inb_S8x336x256_S1x336x256_4_0_0, ← ld_slab WW 5 inb_S8x336x256_S1x336x256_5_0_0, ← ld_slab WW 6 inb_S8x336x256_S1x336x256_6_0_0, ← ld_slab WW 7 inb_S8x336x256_S1x336x256_7_0_0]
        rfl
    isplitl [H12]
    · iexists _; isplitr
      swap
      · iexact H12
      · ipureintro
        sl_open_run
        simp (disch := decide) only [View.readAt_eq_ld, Memref.IsWhole.read_unread, View.ld_unit_lit]
        exact read_gates _ harg13 i g (gOut x0 x1 x2 x3 x4) _
    isplitl [H13]
    · iexists _; isplitr
      swap
      · iexact H13
      · ipureintro
        refine (read_store_whole _ _ _ _ _ (by decide)).trans ?_
        sl_open_run
        simp (disch := decide) only [View.readAt_eq_ld, Memref.IsWhole.read_unread, View.ld_unit_lit]
        funext _
        exact congrArg k0_pay10 (read_gates _ harg13 i g (gOut x0 x1 x2 x3 x4) _)
    · iexists _; isplitr
      swap
      · iexact HS0
      · ipureintro
        exact harg15.read_unread _

end Cert.KernelIdeal.Hand

end
-- ==== Proof.Data.lean ====
/-
  The kernel's proof data: what each staging buffer and the scratch hold before and after each grid point.
-/
module

public import proofs.«01_k».proof.Proof.Out
public import Idealize.ShloMosaic.Lib.Pipeline.FrameBody
public import Idealize.ShloMosaic.Lib.Pipeline.ReadBack
public import Idealize.ShloMosaic.Lib.Ring
public import Idealize.ShloMosaic.Lib.Pipeline.ArrRel
public import Idealize.ShloMosaic.Lib.Pipeline.DatRel
public import Idealize.ShloMosaic.Lib.Pipeline.ValueKit
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first condition holds at the first point alone. -/
theorem isFirst_iff : ∀ t : Fin cfg0.N, isFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have h8 : t.val = 0 ↔ t.val % 8 = 0 := by omega
    rw [h8]
    simp only [isFirst, e0]
    word_cmp
   : ∀ t : Fin grid0.N, isFirst (grid0.coords t) ↔ t.val = 0)

/-- The last condition holds at the last point alone. -/
theorem isLast_iff : ∀ t : Fin cfg0.N, isLast (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    have h8 : t.val = 7 ↔ t.val % 8 = 7 := by omega
    rw [h8]
    simp only [isLast, k0_cond2, e0]
    word_cmp
   : ∀ t : Fin grid0.N, isLast (grid0.coords t) ↔ t.val = 7)

/-- The grid's one coordinate is the point's number. -/
theorem coord_val : ∀ t : Fin cfg0.N, (grid0.coords t 0).val = t.val :=
  (fun t => by
    have ht : t.val < 8 := Nat.lt_of_lt_of_eq t.isLt N_0
    have e0 : (grid0.coords t 0).val = t.val / 1 % 8 := Pipeline.Grid.coords_val t 0 (by decide) rfl
    omega
   : ∀ t : Fin grid0.N, (grid0.coords t 0).val = t.val)

/-- Window 0's staging buffer at a point. -/
abbrev st0 (t : Fin cfg0.N) : Memref sig .tc .vmem S64x21x336 .f32 := win0_0.stage (cfg0.slots t 0)
/-- It is a whole buffer. -/
abbrev hst0 (t : Fin cfg0.N) : (st0 t).IsWhole := hstage0_0 ((cfg0.slots t 0).cast nbuf0_0)
/-- Window 1's staging buffer at a point. -/
abbrev st1 (t : Fin cfg0.N) : Memref sig .tc .vmem S21 .f32 := win0_1.stage (cfg0.slots t 1)
/-- It is a whole buffer. -/
abbrev hst1 (t : Fin cfg0.N) : (st1 t).IsWhole := hstage0_1 ((cfg0.slots t 1).cast nbuf0_1)
/-- Window 2's staging buffer at a point. -/
abbrev st2 (t : Fin cfg0.N) : Memref sig .tc .vmem S21 .f32 := win0_2.stage (cfg0.slots t 2)
/-- It is a whole buffer. -/
abbrev hst2 (t : Fin cfg0.N) : (st2 t).IsWhole := hstage0_2 ((cfg0.slots t 2).cast nbuf0_2)
/-- Window 3's staging buffer at a point. -/
abbrev st3 (t : Fin cfg0.N) : Memref sig .tc .vmem S336x256 .f32 := win0_3.stage (cfg0.slots t 3)
/-- It is a whole buffer. -/
abbrev hst3 (t : Fin cfg0.N) : (st3 t).IsWhole := hstage0_3 ((cfg0.slots t 3).cast nbuf0_3)
/-- Window 4's staging buffer at a point. -/
abbrev st4 (t : Fin cfg0.N) : Memref sig .tc .vmem S256x8 .f32 := win0_4.stage (cfg0.slots t 4)
/-- It is a whole buffer. -/
abbrev hst4 (t : Fin cfg0.N) : (st4 t).IsWhole := hstage0_4 ((cfg0.slots t 4).cast nbuf0_4)
/-- Window 5's staging buffer at a point. -/
abbrev st5 (t : Fin cfg0.N) : Memref sig .tc .vmem S8x256x336 .f32 := win0_5.stage (cfg0.slots t 5)
/-- It is a whole buffer. -/
abbrev hst5 (t : Fin cfg0.N) : (st5 t).IsWhole := hstage0_5 ((cfg0.slots t 5).cast nbuf0_5)
/-- Window 6's staging buffer at a point. -/
abbrev st6 (t : Fin cfg0.N) : Memref sig .tc .vmem S8x256 .f32 := win0_6.stage (cfg0.slots t 6)
/-- It is a whole buffer. -/
abbrev hst6 (t : Fin cfg0.N) : (st6 t).IsWhole := hstage0_6 ((cfg0.slots t 6).cast nbuf0_6)
/-- Window 7's staging buffer at a point. -/
abbrev st7 (t : Fin cfg0.N) : Memref sig .tc .vmem S8x256x336 .f32 := win0_7.stage (cfg0.slots t 7)
/-- It is a whole buffer. -/
abbrev hst7 (t : Fin cfg0.N) : (st7 t).IsWhole := hstage0_7 ((cfg0.slots t 7).cast nbuf0_7)
/-- Window 8's staging buffer at a point. -/
abbrev st8 (t : Fin cfg0.N) : Memref sig .tc .vmem S8x256 .f32 := win0_8.stage (cfg0.slots t 8)
/-- It is a whole buffer. -/
abbrev hst8 (t : Fin cfg0.N) : (st8 t).IsWhole := hstage0_8 ((cfg0.slots t 8).cast nbuf0_8)
/-- Window 9's staging buffer at a point. -/
abbrev st9 (t : Fin cfg0.N) : Memref sig .tc .vmem S336x672 .f32 := win0_9.stage (cfg0.slots t 9)
/-- It is a whole buffer. -/
abbrev hst9 (t : Fin cfg0.N) : (st9 t).IsWhole := hstage0_9 ((cfg0.slots t 9).cast nbuf0_9)
/-- Window 10's staging buffer at a point. -/
abbrev st10 (t : Fin cfg0.N) : Memref sig .tc .vmem S1344x64 .f32 := win0_10.stage (cfg0.slots t 10)
/-- It is a whole buffer. -/
abbrev hst10 (t : Fin cfg0.N) : (st10 t).IsWhole := hstage0_10 ((cfg0.slots t 10).cast nbuf0_10)
/-- Window 11's staging buffer at a point. -/
abbrev st11 (t : Fin cfg0.N) : Memref sig .tc .vmem S64x21x256 .f32 := win0_11.stage (cfg0.slots t 11)
/-- It is a whole buffer. -/
abbrev hst11 (t : Fin cfg0.N) : (st11 t).IsWhole := hstage0_11 ((cfg0.slots t 11).cast nbuf0_11)
/-- Window 12's staging buffer at a point. -/
abbrev st12 (t : Fin cfg0.N) : Memref sig .tc .vmem S512x8 .f32 := win0_12.stage (cfg0.slots t 12)
/-- It is a whole buffer. -/
abbrev hst12 (t : Fin cfg0.N) : (st12 t).IsWhole := hstage0_12 ((cfg0.slots t 12).cast nbuf0_12)
/-- Window 13's staging buffer at a point. -/
abbrev st13 (t : Fin cfg0.N) : Memref sig .tc .smem S1x1 .f32 := win0_13.stage (cfg0.slots t 13)
/-- It is a whole buffer. -/
abbrev hst13 (t : Fin cfg0.N) : (st13 t).IsWhole := hstage0_13 ((cfg0.slots t 13).cast nbuf0_13)

/-- The first point. -/
def tFirst : Fin cfg0.N := ⟨0, by rw [show cfg0.N = 8 from N_0]; decide⟩

/-- The point that computes row `r` of the gates. -/
def tRow (r : Fin 512) : Fin cfg0.N := ⟨r.val / 64, by rw [show cfg0.N = 8 from N_0]; omega⟩

/-- The folded weights that the scratch holds from the first point on. -/
def WW (c : Dev nD) : Vec F S8x336x256 .f32 := weff (iblk m c 5 tFirst) (iblk m c 7 tFirst) (iblk m c 9 tFirst)

/-- The gates of one point. -/
def gAt (c : Dev nD) (t : Fin cfg0.N) : Vec F S64x8 .f32 :=
  gOut (iblk m c 0 t) (iblk m c 1 t) (iblk m c 2 t) (iblk m c 3 t) (iblk m c 4 t)

/-- The block of the result of one point. -/
def yAt (c : Dev nD) (t : Fin cfg0.N) : Vec F S64x21x256 .f32 :=
  yOut (iblk m c 0 t) (iblk m c 1 t) (iblk m c 2 t) (iblk m c 3 t) (iblk m c 4 t) (iblk m c 6 t) (iblk m c 8 t) (iblk m c 10 t) (WW m c)

/-- The whole gates array. -/
def GG (c : Dev nD) : Vec F S512x8 .f32 := fun y => gAt m c (tRow (y 0)) (ValueIdx.ix2 ⟨(y 0).val % 64, Nat.mod_lt _ (by decide)⟩ (y 1))

/-- After `n` points the first `64 n` rows of the gates array are the gates. -/
def rowsDone (c : Dev nD) (n : ℕ) (X : Vec F S512x8 .f32) : Prop := ∀ y : S512x8.Idx, (y 0).val < 64 * n → X y = GG m c y

/-- What is said of the two outputs that stay in place: of the gates the rows stored so far, of the loss its value after the last point. -/
def Rl (c : Dev nD) : (w : Fin cfg0.W) → Fin cfg0.N → ((cfg0.win w).block.Idx → Elt F (cfg0.win w).elt) → Prop := fun w => match w with
  | ⟨12, _⟩ => fun t X => rowsDone m c (t.val + 1) X
  | ⟨13, _⟩ => fun t X => t.val = 7 → X = fun _ => k0_pay10 (GG m c)
  | _ => fun _ _ => True

/-- The two outputs that stay in place. -/
def fgt : Fin 14 → Bool := fun w => w.val == 12 || w.val == 13

/-- The scratch. -/
abbrev scM : Memref sig .tc .vmem S8x336x256 .f32 := Memref.whole cc0_scratch0

/-- Between the points the scratch holds the folded weights, from the first point on. -/
def PhiS (c : Dev nD) (t : Fin (cfg0.N + 1)) : sProp 𝕄 :=
  iprop((∃ d, ⌜0 < t.val → d = WW m c⌝ ∗ owns (c : Thread nD τ) scM fullShare d) ∗ (∃ r, prngReg c r))

/-- What the launch hands over and takes back of the scratch: some contents. -/
theorem PhiA_eq (c : Dev nD) : (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The proof data, the two outputs that stay in place left unnamed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yAt m c t
    | ⟨12, h⟩ => Pipeline.Dat.unnamed (cfg := cfg0) ⟨12, h⟩ t
    | ⟨13, h⟩ => Pipeline.Dat.unnamed (cfg := cfg0) ⟨13, h⟩ t
  Φ := PhiS m c
  q _ := fullShare
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = iblk m c 7 t := by dsimp only [dat]
theorem after_8 (c : Dev nD) (t : Fin cfg0.N) : (dat m c).after 8 t = iblk m c 8 t := by dsimp only [dat]
theorem after_9 (c : Dev nD) (t : Fin cfg0.N) : (dat m c).after 9 t = iblk m c 9 t := by dsimp only [dat]
theorem after_10 (c : Dev nD) (t : Fin cfg0.N) : (dat m c).after 10 t = iblk m c 10 t := by dsimp only [dat]
theorem after_11 (c : Dev nD) (t : Fin cfg0.N) : (dat m c).after 11 t = yAt m c t := by dsimp only [dat]

theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d
theorem before_5 (c : Dev nD) (t : Fin cfg0.N) (d) : (dat m c).before 5 t d = iblk m c 5 t :=
  before0_5_of m (dat m c) (A_eq m c 5) (after_5 m c) t d
theorem before_6 (c : Dev nD) (t : Fin cfg0.N) (d) : (dat m c).before 6 t d = iblk m c 6 t :=
  before0_6_of m (dat m c) (A_eq m c 6) (after_6 m c) t d
theorem before_7 (c : Dev nD) (t : Fin cfg0.N) (d) : (dat m c).before 7 t d = iblk m c 7 t :=
  before0_7_of m (dat m c) (A_eq m c 7) (after_7 m c) t d
theorem before_8 (c : Dev nD) (t : Fin cfg0.N) (d) : (dat m c).before 8 t d = iblk m c 8 t :=
  before0_8_of m (dat m c) (A_eq m c 8) (after_8 m c) t d
theorem before_9 (c : Dev nD) (t : Fin cfg0.N) (d) : (dat m c).before 9 t d = iblk m c 9 t :=
  before0_9_of m (dat m c) (A_eq m c 9) (after_9 m c) t d
theorem before_10 (c : Dev nD) (t : Fin cfg0.N) (d) : (dat m c).before 10 t d = iblk m c 10 t :=
  before0_10_of m (dat m c) (A_eq m c 10) (after_10 m c) t d

/-- The next 64 rows of the gates array. -/
theorem rowsDone_next (c : Dev nD) (t : Fin cfg0.N) (g : Vec F S512x8 .f32) (hg : rowsDone m c t.val g) :
    rowsDone m c (t.val + 1) (gNext t.val g (gAt m c t)) := by
  intro y hy
  unfold gNext
  split
  · rename_i h
    have ht : tRow (y 0) = t := Fin.ext (by show (y 0).val / 64 = t.val; omega)
    show _ = gAt m c (tRow (y 0)) _
    rw [ht]
    refine congrArg (gAt m c t) (funext fun a => Fin.ext ?_)
    fin_cases a
    · show (y 0).val - 64 * t.val = (y 0).val % 64; omega
    · rfl
  · exact hg y (by omega)

/-- Once all the rows are stored the array is the gates. -/
theorem rowsDone_all (c : Dev nD) (n : ℕ) (hn : n = 8) (g : Vec F S512x8 .f32) (hg : rowsDone m c n g) : g = GG m c := by
  funext y
  have h : (y 0).val < 512 := (y 0).isLt
  exact hg y (by omega)

/-- What a point finds in the gates' buffer. -/
theorem rowsDone_of_finds (c : Dev nD) (t : Fin cfg0.N) (Y : Vec F S512x8 .f32) (h : ((dat m c).toRRel fgt (Rl m c)).Finds 12 t Y) :
    rowsDone m c t.val Y := by
  have ht : t.val < 8 := Nat.lt_of_lt_of_eq t.isLt N_0
  by_cases h0 : t.val = 0
  · intro y hy; rw [h0] at hy; omega
  · rcases (Pipeline.RDat.finds_of_pos _ (w := 12) rfl h0 Y).mp h with hf | hl
    · have h7 := (flush0_12 _).mp hf
      have : (t.val - 1) % 8 = 7 := h7
      omega
    · have hr : rowsDone m c (t.val - 1 + 1) Y := Pipeline.Dat.toRRel_leaves (dat m c) (w := 12) rfl hl
      rwa [show t.val - 1 + 1 = t.val by omega] at hr

end Cert.KernelIdeal.Hand

end
-- ==== Proof.Body.lean ====
/-
  The kernel's body at any grid point, over its proof data: the obligation of the pipeline's launch.
-/
module

public import proofs.«01_k».proof.Proof.RunA
public import proofs.«01_k».proof.Proof.RunB
public import proofs.«01_k».proof.Proof.RunC
public import proofs.«01_k».proof.Proof.Data
public import Idealize.ShloMosaic.Lib.Pipeline.FrameBody
public import Idealize.ShloMosaic.Lib.Pipeline.ReadBack
public import Idealize.ShloMosaic.Lib.Ring
public import Idealize.ShloMosaic.Lib.Pipeline.ArrRel
public import Idealize.ShloMosaic.Lib.Pipeline.DatRel
public import Idealize.ShloMosaic.Lib.Pipeline.ValueKit
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at any point: from the blocks, some contents of the outputs, the gates stored so far and the scratch, it leaves the point's block of
    the result, the gates with the next rows stored, the loss once all the rows are there, and the scratch with the folded weights. -/
theorem run_point (c : Dev nD) (t : Fin cfg0.N) (g : Vec F S512x8 .f32) (hg : rowsDone m c t.val g) : ∀ (E : Set ℕ) (K : PUnit → sProp 𝕄),
    iprop((owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (iblk m c 6 t) ∗ owns (c : Thread nD τ) (st7 t) fullShare (iblk m c 7 t) ∗ owns (c : Thread nD τ) (st8 t) fullShare (iblk m c 8 t) ∗ owns (c : Thread nD τ) (st9 t) fullShare (iblk m c 9 t) ∗ owns (c : Thread nD τ) (st10 t) fullShare (iblk m c 10 t)) ∗ (∃ d, owns (c : Thread nD τ) (st11 t) fullShare d) ∗ owns (c : Thread nD τ) (st12 t) fullShare g ∗ (∃ d, owns (c : Thread nD τ) (st13 t) fullShare d)
      ∗ (∃ d, ⌜0 < t.val → d = WW m c⌝ ∗ owns (c : Thread nD τ) scM fullShare d)
      ∗ (iprop((owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (iblk m c 6 t) ∗ owns (c : Thread nD τ) (st7 t) fullShare (iblk m c 7 t) ∗ owns (c : Thread nD τ) (st8 t) fullShare (iblk m c 8 t) ∗ owns (c : Thread nD τ) (st9 t) fullShare (iblk m c 9 t) ∗ owns (c : Thread nD τ) (st10 t) fullShare (iblk m c 10 t)) ∗ owns (c : Thread nD τ) (st11 t) fullShare (yAt m c t)
          ∗ (∃ X, ⌜rowsDone m c (t.val + 1) X⌝ ∗ owns (c : Thread nD τ) (st12 t) fullShare X)
          ∗ (∃ X, ⌜t.val = 7 → X = fun _ => k0_pay10 (GG m c)⌝ ∗ owns (c : Thread nD τ) (st13 t) fullShare X)
          ∗ (∃ d, ⌜0 < t.val + 1 → d = WW m c⌝ ∗ owns (c : Thread nD τ) scM fullShare d)) -∗ K ⟨⟩))
      ⊢ wp frame (wpE (defs₀ (F := F)) Variants.none c none) E (bodyAt0 t) K := by
  intro E K
  unfold bodyAt0
  by_cases h0 : t.val = 0
  · have hA : isFirst (grid0.coords t) := (isFirst_iff t).mpr h0
    have hL : ¬isLast (grid0.coords t) := fun h => by have := (isLast_iff t).mp h; omega
    have ht : t = tFirst := Fin.ext h0
    have hW : weff (iblk m c 5 t) (iblk m c 7 t) (iblk m c 9 t) = WW m c := by rw [ht]; rfl
    have hy : yOut (iblk m c 0 t) (iblk m c 1 t) (iblk m c 2 t) (iblk m c 3 t) (iblk m c 4 t) (iblk m c 6 t) (iblk m c 8 t) (iblk m c 10 t)
        (weff (iblk m c 5 t) (iblk m c 7 t) (iblk m c 9 t)) = yAt m c t := by rw [hW]; rfl
    have run := runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scM (Memref.isWhole_whole _) hA hL (iblk m c 0 t) (iblk m c 1 t) (iblk m c 2 t) (iblk m c 3 t) (iblk m c 4 t) (iblk m c 5 t) (iblk m c 6 t) (iblk m c 7 t) (iblk m c 8 t) (iblk m c 9 t) (iblk m c 10 t) g E K
    rw [hy, hW] at run
    refine .trans ?_ run
    iintro ⟨HI, H11, H12, H13, ⟨%d, %hd, HS⟩, Hk⟩
    -- runA
    isplitl [HI]; · iexact HI
    isplitl [H11]; · iexact H11
    isplitl [H12]; · iexact H12
    isplitl [H13]; · iexact H13
    isplitl [HS]; · iexists _; iexact HS
    iintro ⟨HI, H11, H12, H13, HS⟩
    iapply Hk
    isplitl [HI]; · iexact HI
    isplitl [H11]; · iexact H11
    isplitl [H12]
    · iexists _; isplitr; swap; · iexact H12
      ipureintro; rw [coord_val]; exact rowsDone_next m c t g hg
    isplitl [H13]
    · icases H13 with ⟨%e, H13⟩; iexists _; isplitr; swap; · iexact H13
      ipureintro; intro h; omega
    iexists _; isplitr; swap; · iexact HS
    ipureintro; intro _; rfl
  · have hA : ¬isFirst (grid0.coords t) := fun h => h0 ((isFirst_iff t).mp h)
    by_cases h7 : t.val = 7
    · have hL : isLast (grid0.coords t) := (isLast_iff t).mpr h7
      have run := runC c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scM (Memref.isWhole_whole _) hA hL (iblk m c 0 t) (iblk m c 1 t) (iblk m c 2 t) (iblk m c 3 t) (iblk m c 4 t) (iblk m c 5 t) (iblk m c 6 t) (iblk m c 7 t) (iblk m c 8 t) (iblk m c 9 t) (iblk m c 10 t) g (WW m c) E K
      refine .trans ?_ run
      iintro ⟨HI, H11, H12, H13, ⟨%d, %hd, HS⟩, Hk⟩
      obtain rfl := hd (by omega)
      isplitl [HI]; · iexact HI
      isplitl [H11]; · iexact H11
      isplitl [H12]; · iexact H12
      isplitl [H13]; · iexact H13
      isplitl [HS]; · iexact HS
      iintro ⟨HI, H11, H12, H13, HS⟩
      iapply Hk
      isplitl [HI]; · iexact HI
      isplitl [H11]; · iexact H11
      isplitl [H12]
      · iexists _; isplitr; swap; · iexact H12
        ipureintro; rw [coord_val]; exact rowsDone_next m c t g hg
      isplitl [H13]
      · iexists _; isplitr; swap; · iexact H13
        ipureintro; intro _; funext _; rw [coord_val]; exact congrArg k0_pay10 (rowsDone_all m c (t.val + 1) (by omega) _ (rowsDone_next m c t g hg))
      iexists _; isplitr; swap; · iexact HS
      ipureintro; intro _; rfl
    · have hL : ¬isLast (grid0.coords t) := fun h => h7 ((isLast_iff t).mp h)
      have run := runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) scM (Memref.isWhole_whole _) hA hL (iblk m c 0 t) (iblk m c 1 t) (iblk m c 2 t) (iblk m c 3 t) (iblk m c 4 t) (iblk m c 5 t) (iblk m c 6 t) (iblk m c 7 t) (iblk m c 8 t) (iblk m c 9 t) (iblk m c 10 t) g (WW m c) E K
      refine .trans ?_ run
      iintro ⟨HI, H11, H12, H13, ⟨%d, %hd, HS⟩, Hk⟩
      obtain rfl := hd (by omega)
      isplitl [HI]; · iexact HI
      isplitl [H11]; · iexact H11
      isplitl [H12]; · iexact H12
      isplitl [H13]; · iexact H13
      isplitl [HS]; · iexact HS
      iintro ⟨HI, H11, H12, H13, HS⟩
      iapply Hk
      isplitl [HI]; · iexact HI
      isplitl [H11]; · iexact H11
      isplitl [H12]
      · iexists _; isplitr; swap; · iexact H12
        ipureintro; rw [coord_val]; exact rowsDone_next m c t g hg
      isplitl [H13]
      · icases H13 with ⟨%e, H13⟩; iexists _; isplitr; swap; · iexact H13
        ipureintro; intro h; omega
      iexists _; isplitr; swap; · iexact HS
      ipureintro; intro _; rfl

/-- What the body is called with at a point, -/
def bodyPre (c : Dev nD) (t : Fin cfg0.N) : sProp 𝕄 :=
  iprop((dat m c).Φ t.castSucc ∗ (dat m c).owesAt () t.castSucc
    ∗ (∃ d, owns (c : Thread nD τ) (st0 t) fullShare ((dat m c).before 0 t d))
    ∗ (∃ d, owns (c : Thread nD τ) (st1 t) fullShare ((dat m c).before 1 t d))
    ∗ (∃ d, owns (c : Thread nD τ) (st2 t) fullShare ((dat m c).before 2 t d))
    ∗ (∃ d, owns (c : Thread nD τ) (st3 t) fullShare ((dat m c).before 3 t d))
    ∗ (∃ d, owns (c : Thread nD τ) (st4 t) fullShare ((dat m c).before 4 t d))
    ∗ (∃ d, owns (c : Thread nD τ) (st5 t) fullShare ((dat m c).before 5 t d))
    ∗ (∃ d, owns (c : Thread nD τ) (st6 t) fullShare ((dat m c).before 6 t d))
    ∗ (∃ d, owns (c : Thread nD τ) (st7 t) fullShare ((dat m c).before 7 t d))
    ∗ (∃ d, owns (c : Thread nD τ) (st8 t) fullShare ((dat m c).before 8 t d))
    ∗ (∃ d, owns (c : Thread nD τ) (st9 t) fullShare ((dat m c).before 9 t d))
    ∗ (∃ d, owns (c : Thread nD τ) (st10 t) fullShare ((dat m c).before 10 t d))
    ∗ (∃ d, owns (c : Thread nD τ) (st11 t) fullShare ((dat m c).before 11 t d))
    ∗ (∃ Y, ⌜((dat m c).toRRel fgt (Rl m c)).Finds 12 t Y⌝ ∗ owns (c : Thread nD τ) (st12 t) fullShare Y)
    ∗ (∃ Y, ⌜((dat m c).toRRel fgt (Rl m c)).Finds 13 t Y⌝ ∗ owns (c : Thread nD τ) (st13 t) fullShare Y))

/-- and what it returns. -/
def bodyPost (c : Dev nD) (t : Fin cfg0.N) : sProp 𝕄 :=
  iprop((dat m c).Φ t.succ ∗ (dat m c).owesAt () t.succ
    ∗ owns (c : Thread nD τ) (st0 t) fullShare ((dat m c).after 0 t)
    ∗ owns (c : Thread nD τ) (st1 t) fullShare ((dat m c).after 1 t)
    ∗ owns (c : Thread nD τ) (st2 t) fullShare ((dat m c).after 2 t)
    ∗ owns (c : Thread nD τ) (st3 t) fullShare ((dat m c).after 3 t)
    ∗ owns (c : Thread nD τ) (st4 t) fullShare ((dat m c).after 4 t)
    ∗ owns (c : Thread nD τ) (st5 t) fullShare ((dat m c).after 5 t)
    ∗ owns (c : Thread nD τ) (st6 t) fullShare ((dat m c).after 6 t)
    ∗ owns (c : Thread nD τ) (st7 t) fullShare ((dat m c).after 7 t)
    ∗ owns (c : Thread nD τ) (st8 t) fullShare ((dat m c).after 8 t)
    ∗ owns (c : Thread nD τ) (st9 t) fullShare ((dat m c).after 9 t)
    ∗ owns (c : Thread nD τ) (st10 t) fullShare ((dat m c).after 10 t)
    ∗ owns (c : Thread nD τ) (st11 t) fullShare ((dat m c).after 11 t)
    ∗ (∃ X, ⌜Rl m c 12 t X⌝ ∗ owns (c : Thread nD τ) (st12 t) fullShare X)
    ∗ (∃ X, ⌜Rl m c 13 t X⌝ ∗ owns (c : Thread nD τ) (st13 t) fullShare X))

set_option maxHeartbeats 1600000 in
/-- The body at any point, as the launch hands it its buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, after_0, after_1, after_2, after_3, after_4, after_5, after_6, after_7, after_8, after_9, after_10, after_11]
  rw [show (dat m c).Φ t.castSucc = iprop((∃ d, ⌜0 < t.val → d = WW m c⌝ ∗ owns (c : Thread nD τ) scM fullShare d) ∗ (∃ r, prngReg c r)) from rfl,
    show (dat m c).Φ t.succ = iprop((∃ d, ⌜0 < t.val + 1 → d = WW m c⌝ ∗ owns (c : Thread nD τ) scM fullShare d) ∗ (∃ r, prngReg c r)) from rfl,
    show (dat m c).owesAt () t.succ = (dat m c).owesAt () t.castSucc from rfl]
  iintro ⟨⟨HS, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%g, %hg, H12⟩, ⟨%e, %he, H13⟩⟩
  iapply run_point m c t g (rowsDone_of_finds m c t g hg)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexists _; iexact H11
  isplitl [H12]; · iexact H12
  isplitl [H13]; · iexists _; iexact H13
  isplitl [HS]; · iexact HS
  iintro ⟨⟨H0, H1, H2, H3, H4, H5, H6, H7, H8, H9, H10⟩, H11, H12, H13, HS⟩
  isplitl [HS HR]
  · isplitl [HS]
    · iexact HS
    · iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexact H12
  · iexact H13

/-- The body table's row at a point is the body there. -/
theorem row_eq (t : Fin cfg0.N) : defs₀ (F := F) .tc cfg0.body (cfg0.bodyArgs t (cfg0.slots t)) = bodyAt0 t := by
  unfold defs₀; rw [Defs.onTc_tc]

set_option backward.isDefEq.respectTransparency.types false in
/-- The obligation of the launch. -/
theorem body_obligation (c : Dev nD) : Pipeline.BodyObligationRel (dat m c) (defs₀ (F := F)) Variants.none () Set.univ fgt (Rl m c) := fun t => by
  rw [bigSep_W0, bigSep_W0, row_eq]
  exact triple_restated (sound_body m c t) rfl .rfl fun _ => .rfl

end Cert.KernelIdeal.Hand

end
-- ==== Proof.Launch.lean ====
/-
  The kernel's launch: it runs, leaves its arguments unchanged and its counters at zero, and its two results hold what the grid points left.
-/
module

public import proofs.«01_k».proof.Proof.Body
public import Idealize.ShloMosaic.Lib.Claim
public import Idealize.ShloMosaic.Lib.Pipeline.FrameBody
public import Idealize.ShloMosaic.Lib.Pipeline.ReadBack
public import Idealize.ShloMosaic.Lib.Ring
public import Idealize.ShloMosaic.Lib.Pipeline.ArrRel
public import Idealize.ShloMosaic.Lib.Pipeline.DatRel
public import Idealize.ShloMosaic.Lib.Pipeline.ValueKit
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem phi_in (c : Dev nD) : (Pipeline.ΦA spec0 c : sProp 𝕄) ⊢ PhiS m c 0 := by
  rw [PhiA_eq]; unfold PhiS
  iintro ⟨⟨%d, H⟩, HR⟩
  isplitl [H]
  · iexists d; isplitr; swap; · iexact H
    ipureintro; intro h; exact absurd h (Nat.lt_irrefl _)
  · iexact HR

theorem phi_out (c : Dev nD) : PhiS m c (Fin.last cfg0.N) ⊢ (Pipeline.ΦA spec0 c : sProp 𝕄) := by
  rw [PhiA_eq]; unfold PhiS
  iintro ⟨⟨%d, %hd, H⟩, HR⟩
  isplitl [H]
  · iexists d; iexact H
  · iexact HR

/-- The proof data read relationally, the two outputs that stay in place held to what is said of them. -/
def rdat (c : Dev nD) : Pipeline.RDat τ (Elt F) Unit ℕ (UR sig nD τ) ℕ (cfgs 0) c := (dat m c).toRRel fgt (Rl m c)

set_option backward.isDefEq.respectTransparency.types false in
/-- The launch, with the arrays after it. -/
theorem run_arrays : θ_run defs (onTc (τ := τ) (main (F := F))) (s₀ m ρ)
    (fun r => Pipeline.RDat.FramePost (cfgs 0) (rdat m) (V m) r ∧ r.2.sem = fun _ => 0) :=
  Pipeline.RDat.θ_run_frame_track cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hin := phi_in m) (hout := phi_out m)
    (Q' := _) (hQ' := fun _ h => h)

/-- The arguments end unchanged. -/
theorem args_unchanged (rd : (c : Dev nD) → Pipeline.RDat τ (Elt F) Unit ℕ (UR sig nD τ) ℕ (cfgs 0) c)
    (hA : ∀ c w, (rd c).A w = V m c (Pipeline.arrRef spec0 w)) {r : PUnit × MemSt nD τ sig (Elt F)}
    (h : Pipeline.RDat.FramePost (cfgs 0) rd (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
    (Pipeline.RDat.FramePost.arr_in h c 1 rfl).trans ((hA c 1).trans (V_main_arg1 m c)),
    (Pipeline.RDat.FramePost.arr_in h c 2 rfl).trans ((hA c 2).trans (V_main_arg2 m c)),
    (Pipeline.RDat.FramePost.arr_in h c 3 rfl).trans ((hA c 3).trans (V_main_arg3 m c)),
    (Pipeline.RDat.FramePost.arr_in h c 4 rfl).trans ((hA c 4).trans (V_main_arg4 m c)),
    (Pipeline.RDat.FramePost.arr_in h c 5 rfl).trans ((hA c 5).trans (V_main_arg5 m c)),
    (Pipeline.RDat.FramePost.arr_in h c 6 rfl).trans ((hA c 6).trans (V_main_arg6 m c)),
    (Pipeline.RDat.FramePost.arr_in h c 7 rfl).trans ((hA c 7).trans (V_main_arg7 m c)),
    (Pipeline.RDat.FramePost.arr_in h c 8 rfl).trans ((hA c 8).trans (V_main_arg8 m c))⟩

/-- The frame: the kernel runs, its arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_unchanged m (rdat m) (A_eq m) h.1 c, h.2⟩) (run_arrays m ρ)

/-- The whole result: each point's block at its rows. -/
def YY (c : Dev nD) : Vec F S512x21x256 .f32 :=
  fun y => yAt m c (tRow (y 0)) (ValueIdx.ix3 ⟨(y 0).val % 64, Nat.mod_lt _ (by decide)⟩ (y 1) (y 2))

/-- The last point. -/
def tLast : Fin cfg0.N := ⟨7, by rw [show cfg0.N = 8 from N_0]; decide⟩

/-- The result's block at each point. -/
theorem index_11 : ∀ t : Fin cfg0.N, win0_11.index t = ![t.val, 0, 0] :=
  (by decide +kernel : ∀ t : Fin grid0.N, win0_11.index t = ![t.val, 0, 0])

/-- The result's array holds the blocks. -/
theorem result_y {r : PUnit × MemSt nD τ sig (Elt F)} (h : Pipeline.RDat.FramePost (cfgs 0) (rdat m) (V m) r) (c : Dev nD) :
    r.2.mem ((c.tc : Thread nD τ).loc main_v24_0) = YY m c := by
  obtain ⟨after, hl, hm⟩ := h.exists_exact c
  refine (hm 11).trans ?_
  refine Dat.arrAt_eq_of_covers _ 11 _ (by decide +kernel) fun t hf y => ?_
  have ha : after 11 t = yAt m c t := by
    obtain ⟨Y, _, hY⟩ := hl 11 t hf
    exact hY
  blk_simp
  refine (congrFun ha y).trans ?_
  have hy0 : (y 0).val < 64 := (y 0).isLt
  have e0 : (((win0_11.blk t).view.emb y) 0).val = t.val * 64 + (y 0).val := by blk_simp [index_11]
  have e1 : (((win0_11.blk t).view.emb y) 1).val = (y 1).val := by blk_simp [index_11]
  have e2 : (((win0_11.blk t).view.emb y) 2).val = (y 2).val := by blk_simp [index_11]
  have ht : tRow (((win0_11.blk t).view.emb y) 0) = t := Fin.ext (by show (((win0_11.blk t).view.emb y) 0).val / 64 = t.val; omega)
  show _ = yAt m c (tRow (((win0_11.blk t).view.emb y) 0)) _
  rw [ht]
  refine congrArg (yAt m c t) (funext fun a => Fin.ext ?_)
  fin_cases a
  · show (y 0).val = (((win0_11.blk t).view.emb y) 0).val % 64; omega
  · exact e1.symm
  · exact e2.symm

/-- The loss's array holds the loss of the whole gates array. -/
theorem result_loss {r : PUnit × MemSt nD τ sig (Elt F)} (h : Pipeline.RDat.FramePost (cfgs 0) (rdat m) (V m) r) (c : Dev nD) :
    r.2.mem ((c.tc : Thread nD τ).loc main_v24_2) = fun _ => k0_pay10 (GG m c) := by
  obtain ⟨after, hl, hm⟩ := h.exists_exact c
  refine (hm 13).trans ?_
  refine Dat.arrAt_eq_of_after_last _ 13 tLast (by decide +kernel) _ fun j => ?_
  have ha : after 13 tLast = fun _ => k0_pay10 (GG m c) := Pipeline.Dat.toRRel_leaves (dat m c) (w := 13) rfl (hl 13 tLast (by decide +kernel)) rfl
  blk_simp
  exact congrFun ha j

end Cert.KernelIdeal.Hand

end
-- ==== Proof.Xfer.lean ====
/- The printed kernel and its idealised form are the same program over any float carrier: what was proved of the one is so
   of the other. Each step compares two programs of the same text by unfolding. -/
module

public import proofs.«01_k».proof.Proof.Launch
public import proofs.«01_k».proof.Proof.Gen.Kernel
public import Idealize.ShloMosaic.Lib.Pipeline.Regions

@[expose] public section

set_option maxHeartbeats 0

noncomputable section

namespace Cert.KernelIdeal.Hand

open Idealize.ShloMosaic Idealize.SL.Sem

variable {F : FTy → Type} [FloatOps F]

/-- The two programs' @main. -/
theorem main_same : @Cert.Kernel.main F _ _ = @Cert.KernelIdeal.main F _ _ := by chain_rfl

/-- The two programs' table of bodies. -/
theorem defs_same : @Cert.Kernel.defs F _ _ = @Cert.KernelIdeal.defs F _ _ := by chain_rfl

/-- The frame of the kernel as printed, at any carrier. -/
theorem frame_printed (m : (ℓ : Loc Cert.Kernel.nD Cert.Kernel.τ Cert.Kernel.sig) → Buf (Elt F) ℓ)
    (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0) := by
  have h := frame (F := F) m ρ
  rw [← main_same, ← defs_same] at h
  exact h

end Cert.KernelIdeal.Hand

end
-- ==== Proof.Rep.lean ====
/-
  The table that spreads the gates of a block's rows over its results: row `r` holds a one at column `r / 21`. The printed table is
  a tree of digits of the place; it is the tree whose leaves are given by that rule.
-/
module

public import proofs.«01_k».proof.KernelIdeal
public import Idealize.ShloMosaic.Lib.Pipeline.Regions
public import Mathlib.Tactic.IntervalCases

@[expose] public section

noncomputable section

namespace Cert.KernelIdeal.Hand

open Idealize.ShloMosaic

/-- The word at place `n` of the table, row-major: a one where the row's block is the column. -/
def repWord (n : ℕ) : BitVec 32 := bif Nat.beq (n / 64 / 21) (n % 64) then 0x3F800000#32 else 0x00000000#32

/-- One of 32 by a digit. -/
def pick32 (f : ℕ → BitVec 32) (n : ℕ) : BitVec 32 := match n with
  | 0 => f 0 | 1 => f 1 | 2 => f 2 | 3 => f 3 | 4 => f 4 | 5 => f 5 | 6 => f 6 | 7 => f 7 | 8 => f 8 | 9 => f 9 | 10 => f 10 | 11 => f 11
  | 12 => f 12 | 13 => f 13 | 14 => f 14 | 15 => f 15 | 16 => f 16 | 17 => f 17 | 18 => f 18 | 19 => f 19 | 20 => f 20 | 21 => f 21 | 22 => f 22
  | 23 => f 23 | 24 => f 24 | 25 => f 25 | 26 => f 26 | 27 => f 27 | 28 => f 28 | 29 => f 29 | 30 => f 30 | 31 => f 31
  | _ => 0#32

/-- One of 128 by a digit. -/
def pick128 (f : ℕ → BitVec 32) (n : ℕ) : BitVec 32 := match n with
  | 0 => f 0 | 1 => f 1 | 2 => f 2 | 3 => f 3 | 4 => f 4 | 5 => f 5 | 6 => f 6 | 7 => f 7 | 8 => f 8 | 9 => f 9 | 10 => f 10 | 11 => f 11
  | 12 => f 12 | 13 => f 13 | 14 => f 14 | 15 => f 15 | 16 => f 16 | 17 => f 17 | 18 => f 18 | 19 => f 19 | 20 => f 20 | 21 => f 21 | 22 => f 22
  | 23 => f 23 | 24 => f 24 | 25 => f 25 | 26 => f 26 | 27 => f 27 | 28 => f 28 | 29 => f 29 | 30 => f 30 | 31 => f 31 | 32 => f 32 | 33 => f 33
  | 34 => f 34 | 35 => f 35 | 36 => f 36 | 37 => f 37 | 38 => f 38 | 39 => f 39 | 40 => f 40 | 41 => f 41 | 42 => f 42 | 43 => f 43 | 44 => f 44
  | 45 => f 45 | 46 => f 46 | 47 => f 47 | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63 | 64 => f 64 | 65 => f 65 | 66 => f 66
  | 67 => f 67 | 68 => f 68 | 69 => f 69 | 70 => f 70 | 71 => f 71 | 72 => f 72 | 73 => f 73 | 74 => f 74 | 75 => f 75 | 76 => f 76 | 77 => f 77
  | 78 => f 78 | 79 => f 79 | 80 => f 80 | 81 => f 81 | 82 => f 82 | 83 => f 83 | 84 => f 84 | 85 => f 85 | 86 => f 86 | 87 => f 87 | 88 => f 88
  | 89 => f 89 | 90 => f 90 | 91 => f 91 | 92 => f 92 | 93 => f 93 | 94 => f 94 | 95 => f 95 | 96 => f 96 | 97 => f 97 | 98 => f 98 | 99 => f 99
  | 100 => f 100 | 101 => f 101 | 102 => f 102 | 103 => f 103 | 104 => f 104 | 105 => f 105 | 106 => f 106 | 107 => f 107 | 108 => f 108
  | 109 => f 109 | 110 => f 110 | 111 => f 111 | 112 => f 112 | 113 => f 113 | 114 => f 114 | 115 => f 115 | 116 => f 116 | 117 => f 117
  | 118 => f 118 | 119 => f 119 | 120 => f 120 | 121 => f 121 | 122 => f 122 | 123 => f 123 | 124 => f 124 | 125 => f 125 | 126 => f 126
  | 127 => f 127
  | _ => 0#32

/-- The 128 words of a leaf. -/
def leaf (b i : ℕ) : BitVec 32 := pick128 (fun k => repWord (128 * b + k)) (i % 128)

/-- The tree. -/
def tree (i : ℕ) : BitVec 32 := match i / 16384 with
  | 0 => pick128 (fun b => leaf b i) (i / 128 % 128)
  | 1 => pick128 (fun b => leaf (128 + b) i) (i / 128 % 128)
  | 2 => pick128 (fun b => leaf (256 + b) i) (i / 128 % 128)
  | 3 => pick128 (fun b => leaf (384 + b) i) (i / 128 % 128)
  | 4 => pick128 (fun b => leaf (512 + b) i) (i / 128 % 128)
  | 5 => pick32 (fun b => leaf (640 + b) i) (i / 128 % 128)
  | _ => 0#32

/-- The printed table is the tree. -/
theorem lit_tree : lit0t = tree := by chain_rfl

theorem pick32_eq (f : ℕ → BitVec 32) (n : ℕ) (h : n < 32) : pick32 f n = f n := by
  interval_cases n <;> rfl

theorem pick128_eq (f : ℕ → BitVec 32) (n : ℕ) (h : n < 128) : pick128 f n = f n := by
  interval_cases n <;> rfl

theorem leaf_eq (b i : ℕ) (h : i / 128 = b) : leaf b i = repWord i := by
  unfold leaf
  rw [pick128_eq _ _ (Nat.mod_lt _ (by decide))]
  congr 1
  omega

theorem tree_eq (i : ℕ) (hi : i < 86016) : tree i = repWord i := by
  have h6 : i / 16384 < 6 := by omega
  have hm : i / 128 % 128 < 128 := Nat.mod_lt _ (by decide)
  unfold tree
  interval_cases h : i / 16384
  · exact (pick128_eq _ _ hm).trans (leaf_eq _ _ (by omega))
  · exact (pick128_eq _ _ hm).trans (leaf_eq _ _ (by omega))
  · exact (pick128_eq _ _ hm).trans (leaf_eq _ _ (by omega))
  · exact (pick128_eq _ _ hm).trans (leaf_eq _ _ (by omega))
  · exact (pick128_eq _ _ hm).trans (leaf_eq _ _ (by omega))
  · exact (pick32_eq _ _ (by omega)).trans (leaf_eq _ _ (by omega))

/-- The table at a row and a column. -/
theorem lit_at (r : Fin 1344) (b : Fin 64) :
    lit0 ⟨64 * r.val + b.val, by omega⟩ = if r.val / 21 = b.val then 0x3F800000#32 else 0x00000000#32 := by
  show lit0t (64 * r.val + b.val) = _
  rw [lit_tree, tree_eq _ (by omega)]
  unfold repWord
  rw [show (64 * r.val + b.val) / 64 = r.val by omega, show (64 * r.val + b.val) % 64 = b.val by omega]
  by_cases h : r.val / 21 = b.val
  · rw [if_pos h, h, Nat.beq_refl]; rfl
  · rw [if_neg h, Bool.eq_false_iff.2 fun hb => h (Nat.eq_of_beq_eq_true hb)]; rfl

end Cert.KernelIdeal.Hand
-- ==== Proof.Consts.lean ====
/-
  The float constants that the two programs print, as the real numbers they are at the ideal values.
-/
module

public import Idealize.ShloMosaic.Lib.Pointwise

@[expose] public section

noncomputable section

namespace Cert.Math

open Idealize.ShloMosaic

/-- The number of time steps. -/
theorem c336 : Ideal.ofBits .f32 0x43A80000#32 = ((336 : ℝ) : EReal) := by
  simp [Ideal.ofBits, Ideal.ieee, -EReal.coe_mul]; norm_num

/-- The kernel width of the moving average. -/
theorem c25 : Ideal.ofBits .f32 0x41C80000#32 = ((25 : ℝ) : EReal) := by
  simp [Ideal.ofBits, Ideal.ieee, -EReal.coe_mul]; norm_num

/-- The number of experts. -/
theorem c8 : Ideal.ofBits .f32 0x41000000#32 = ((8 : ℝ) : EReal) := by
  simp [Ideal.ofBits, Ideal.ieee, -EReal.coe_mul]; norm_num

/-- One less than the number of experts. -/
theorem c7 : Ideal.ofBits .f32 0x40E00000#32 = ((7 : ℝ) : EReal) := by
  simp [Ideal.ofBits, Ideal.ieee, -EReal.coe_mul]; norm_num

/-- The stabiliser under the root is a positive real. -/
theorem cEps : ∃ ε : ℝ, 0 < ε ∧ Ideal.ofBits .f32 0x3727C5AC#32 = (ε : EReal) := by
  refine ⟨(2 : ℝ) ^ (-40 : ℤ) * 10995116, by positivity, ?_⟩
  simp [Ideal.ofBits, Ideal.ieee, -EReal.coe_mul]; norm_num

/-- The stabiliser of the gates' denominator is a positive real. -/
theorem cEps2 : ∃ ε : ℝ, 0 < ε ∧ Ideal.ofBits .f32 0x358637BD#32 = (ε : EReal) := by
  refine ⟨(2 : ℝ) ^ (-43 : ℤ) * 8796093, by positivity, ?_⟩
  simp [Ideal.ofBits, Ideal.ieee, -EReal.coe_mul]; norm_num

/-- The start of a maximum is minus infinity. -/
theorem cNegInf : Ideal.ofBits .f32 0xFF800000#32 = ⊥ := by
  simp [Ideal.ofBits, Ideal.ieee]

/-- The bound of a finite input is plus infinity. -/
theorem cInf : Ideal.ofBits .f32 0x7F800000#32 = ⊤ := by
  simp [Ideal.ofBits, Ideal.ieee]

/-- The word zero as a float. -/
theorem sitofp_zero : (FloatOps.sitofp .f32 (0#32 : BitVec 32) : Ideal .f32) = 0 := by
  show ((((0#32 : BitVec 32).toInt : ℤ) : ℝ) : EReal) = 0
  simp

/-- The word one as a float. -/
theorem sitofp_one : (FloatOps.sitofp .f32 (1#32 : BitVec 32) : Ideal .f32) = 1 := by
  show ((((1#32 : BitVec 32).toInt : ℤ) : ℝ) : EReal) = 1
  simp

end Cert.Math
-- ==== Proof.Norm.lean ====
/-
  The instance norm over a row of 336 real numbers: the kernel's form, from the sums of the entries and of their squares, is
  the reference's form, from the sum of the squared deviations.
-/
module

public import proofs.«01_k».proof.Proof.Consts

@[expose] public section

noncomputable section

namespace Cert.Math

open Idealize.ShloMosaic

/-- A sum of reals among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real. -/
theorem div_real (a b : ℝ) (hb : b ≠ 0) : Ideal.div (a : EReal) (b : EReal) = ((a / b : ℝ) : EReal) := by
  rw [Ideal.div_coe hb, ← EReal.coe_mul, mul_one_div]

/-- A root of a nonnegative real. -/
theorem sqrt_real (a : ℝ) (ha : 0 ≤ a) : Ideal.sqrt (a : EReal) = ((Real.sqrt a : ℝ) : EReal) := by
  rw [Ideal.sqrt_coe, if_neg (not_lt.2 ha)]

/-- The mean of a row. -/
def mean (x : Fin 336 → ℝ) : ℝ := (∑ k, x k) / 336

/-- The variance of a row. -/
def var (x : Fin 336 → ℝ) : ℝ := (∑ k, (x k - mean x) * (x k - mean x)) / 336

theorem var_nonneg (x : Fin 336 → ℝ) : 0 ≤ var x :=
  div_nonneg (Finset.sum_nonneg fun k _ => mul_self_nonneg _) (by norm_num)

/-- The mean of the squares less the square of the mean is the variance. -/
theorem var_eq (x : Fin 336 → ℝ) : (∑ k, x k * x k) / 336 - mean x * mean x = var x := by
  have h : ∑ k, (x k - mean x) * (x k - mean x) = (∑ k, x k * x k) - 2 * mean x * (∑ k, x k) + 336 * (mean x * mean x) := by
    rw [Finset.mul_sum, ← Finset.sum_sub_distrib,
      show (336 : ℝ) * (mean x * mean x) = ∑ _k : Fin 336, mean x * mean x by simp, ← Finset.sum_add_distrib]
    exact Finset.sum_congr rfl fun k _ => by ring
  have hs : ∑ k, x k = 336 * mean x := by unfold mean; ring
  unfold var
  rw [h, hs]; ring

/-- The reference's small constant, as a number. -/
def eps : ℝ := cEps.choose

theorem eps_pos : 0 < eps := cEps.choose_spec.1

theorem eps_eq : Ideal.ofBits .f32 0x3727C5AC#32 = ((eps : ℝ) : EReal) := cEps.choose_spec.2

/-- The norm of a row at step `l`, as a number. -/
def nrm (x : Fin 336 → ℝ) (w b : ℝ) (l : Fin 336) : ℝ := (x l - mean x) / Real.sqrt (var x + eps) * w + b

/-- The kernel's form of the norm at step `l`, and the reference's, are that number. -/
theorem norm_eq (x : Fin 336 → ℝ) (w b : ℝ) (l : Fin 336) :
    (x l : EReal) * Ideal.div (w : EReal) (Ideal.sqrt
          (Ideal.div (∑ k, (x k : EReal) * (x k : EReal)) (Ideal.ofBits .f32 0x43A80000#32)
            - Ideal.div (∑ k, (x k : EReal)) (Ideal.ofBits .f32 0x43A80000#32) * Ideal.div (∑ k, (x k : EReal)) (Ideal.ofBits .f32 0x43A80000#32)
            + Ideal.ofBits .f32 0x3727C5AC#32))
        + ((b : EReal) - Ideal.div (∑ k, (x k : EReal)) (Ideal.ofBits .f32 0x43A80000#32) * Ideal.div (w : EReal) (Ideal.sqrt
          (Ideal.div (∑ k, (x k : EReal) * (x k : EReal)) (Ideal.ofBits .f32 0x43A80000#32)
            - Ideal.div (∑ k, (x k : EReal)) (Ideal.ofBits .f32 0x43A80000#32) * Ideal.div (∑ k, (x k : EReal)) (Ideal.ofBits .f32 0x43A80000#32)
            + Ideal.ofBits .f32 0x3727C5AC#32))) = ((nrm x w b l : ℝ) : EReal) ∧
    Ideal.div ((x l : EReal) - Ideal.div (∑ k, (x k : EReal)) (Ideal.ofBits .f32 0x43A80000#32))
          (Ideal.sqrt (Ideal.div (∑ k, ((x k : EReal) - Ideal.div (∑ k', (x k' : EReal)) (Ideal.ofBits .f32 0x43A80000#32))
              * ((x k : EReal) - Ideal.div (∑ k', (x k' : EReal)) (Ideal.ofBits .f32 0x43A80000#32))) (Ideal.ofBits .f32 0x43A80000#32)
            + Ideal.ofBits .f32 0x3727C5AC#32)) * (w : EReal) + (b : EReal) = ((nrm x w b l : ℝ) : EReal) := by
  have hε := eps_pos
  have e := eps_eq
  have hv : 0 < var x + eps := add_pos_of_nonneg_of_pos (var_nonneg x) hε
  have hs : Real.sqrt (var x + eps) ≠ 0 := (Real.sqrt_pos.2 hv).ne'
  have hm : Ideal.div (∑ k, (x k : EReal)) (Ideal.ofBits .f32 0x43A80000#32) = ((mean x : ℝ) : EReal) := by
    rw [coe_sum, c336, div_real _ _ (by norm_num)]; rfl
  have hq : Ideal.div (∑ k, (x k : EReal) * (x k : EReal)) (Ideal.ofBits .f32 0x43A80000#32)
      = (((∑ k, x k * x k) / 336 : ℝ) : EReal) := by
    simp only [← EReal.coe_mul]
    rw [coe_sum, c336, div_real _ _ (by norm_num)]
  have hd : Ideal.div (∑ k, ((x k : EReal) - (mean x : EReal)) * ((x k : EReal) - (mean x : EReal))) (Ideal.ofBits .f32 0x43A80000#32)
      = ((var x : ℝ) : EReal) := by
    simp only [← EReal.coe_mul, ← EReal.coe_sub]
    rw [coe_sum, c336, div_real _ _ (by norm_num)]; rfl
  unfold nrm
  refine ⟨?_, ?_⟩
  · rw [hm, hq, e, ← EReal.coe_mul (mean x), ← EReal.coe_sub, var_eq, ← EReal.coe_add, sqrt_real _ hv.le, div_real _ _ hs,
      ← EReal.coe_mul, ← EReal.coe_mul, ← EReal.coe_sub, ← EReal.coe_add]
    congr 1
    field_simp
    ring
  · rw [hm, hd, e, ← EReal.coe_add, sqrt_real _ hv.le, ← EReal.coe_sub, div_real _ _ hs, ← EReal.coe_mul, ← EReal.coe_add]

/-- A sum with a term at minus infinity. -/
theorem sum_bot (f : Fin 336 → EReal) (k : Fin 336) (hk : f k = ⊥) : ∑ i, f i = ⊥ := by
  rw [← Finset.add_sum_erase _ f (Finset.mem_univ k), hk, EReal.bot_add]

/-- A sum with a term at plus infinity and none at minus infinity. -/
theorem sum_top (f : Fin 336 → EReal) (h : ∀ i, f i ≠ ⊥) (k : Fin 336) (hk : f k = ⊤) : ∑ i, f i = ⊤ := by
  rw [← Finset.add_sum_erase _ f (Finset.mem_univ k), hk]
  exact EReal.top_add_of_ne_bot
    (Finset.sum_induction f (· ≠ ⊥) (fun _ _ ha hb => EReal.add_ne_bot_iff.2 ⟨ha, hb⟩) EReal.zero_ne_bot fun i _ => h i)

/-- A number over infinity. -/
theorem div_inf (a : EReal) {z : EReal} (hz : z = ⊤ ∨ z = ⊥) : Ideal.div a z = 0 := by
  rcases hz with rfl | rfl <;> simp [Ideal.div]

/-- The mean of a row with an infinite entry is infinite. -/
theorem mean_inf (x : Fin 336 → EReal) (h : ∃ k, x k = ⊤ ∨ x k = ⊥) :
    Ideal.div (∑ k, x k) (Ideal.ofBits .f32 0x43A80000#32) = ⊤ ∨ Ideal.div (∑ k, x k) (Ideal.ofBits .f32 0x43A80000#32) = ⊥ := by
  have hS : ∑ k, x k = ⊤ ∨ ∑ k, x k = ⊥ := by
    by_cases hb : ∃ k, x k = ⊥
    · obtain ⟨k, hk⟩ := hb
      exact Or.inr (sum_bot x k hk)
    · push Not at hb
      obtain ⟨k, hk | hk⟩ := h
      · exact Or.inl (sum_top x hb k hk)
      · exact absurd hk (hb k)
  have hc : ((336 : ℝ) : EReal) ≠ 0 := by exact_mod_cast (by norm_num : (336 : ℝ) ≠ 0)
  have hi : ((336 : ℝ) : EReal)⁻¹ = (((336 : ℝ)⁻¹ : ℝ) : EReal) := (EReal.coe_inv _).symm
  rw [c336]
  unfold Ideal.div
  rw [if_neg hc, hi]
  rcases hS with h | h <;> rw [h]
  · exact Or.inl (EReal.top_mul_coe_of_pos (by norm_num))
  · exact Or.inr (EReal.bot_mul_coe_of_pos (by norm_num))

/-- The mean of squares of which one is plus infinity. -/
theorem mean_sq_inf (d : Fin 336 → EReal) (h : ∃ k, d k = ⊤ ∨ d k = ⊥) :
    Ideal.div (∑ k, d k * d k) (Ideal.ofBits .f32 0x43A80000#32) = ⊤ := by
  have hn : ∀ k, d k * d k ≠ ⊥ := fun k => by
    induction d k using EReal.rec with
    | bot => exact top_ne_bot
    | coe r => exact (EReal.coe_mul r r).symm ▸ EReal.coe_ne_bot _
    | top => exact top_ne_bot
  obtain ⟨k, hk⟩ := h
  have hk' : d k * d k = ⊤ := by rcases hk with hk | hk <;> rw [hk] <;> rfl
  have hs := sum_top _ hn k hk'
  rcases mean_inf (fun k => d k * d k) ⟨k, Or.inl hk'⟩ with h | h
  · exact h
  · have hc : ((336 : ℝ) : EReal) ≠ 0 := by exact_mod_cast (by norm_num : (336 : ℝ) ≠ 0)
    rw [hs, c336] at h ⊢
    unfold Ideal.div at h ⊢
    rw [if_neg hc, ← EReal.coe_inv, EReal.top_mul_coe_of_pos (by norm_num)]

/-- The norm of any row at step `l`, as a number: a row with an infinite entry has the shift at every step. -/
def norm (x : Fin 336 → EReal) (w b : ℝ) (l : Fin 336) : ℝ := by
  classical exact if ∃ k, x k = ⊤ ∨ x k = ⊥ then b else nrm (fun k => EReal.toReal (x k)) w b l

/-- The kernel's form of the norm of any row, and the reference's, are that number. -/
theorem norm_any (x : Fin 336 → EReal) (w b : ℝ) (l : Fin 336) :
    x l * Ideal.div (w : EReal) (Ideal.sqrt
          (Ideal.div (∑ k, x k * x k) (Ideal.ofBits .f32 0x43A80000#32)
            - Ideal.div (∑ k, x k) (Ideal.ofBits .f32 0x43A80000#32) * Ideal.div (∑ k, x k) (Ideal.ofBits .f32 0x43A80000#32)
            + Ideal.ofBits .f32 0x3727C5AC#32))
        + ((b : EReal) - Ideal.div (∑ k, x k) (Ideal.ofBits .f32 0x43A80000#32) * Ideal.div (w : EReal) (Ideal.sqrt
          (Ideal.div (∑ k, x k * x k) (Ideal.ofBits .f32 0x43A80000#32)
            - Ideal.div (∑ k, x k) (Ideal.ofBits .f32 0x43A80000#32) * Ideal.div (∑ k, x k) (Ideal.ofBits .f32 0x43A80000#32)
            + Ideal.ofBits .f32 0x3727C5AC#32))) = ((norm x w b l : ℝ) : EReal) ∧
    Ideal.div (x l - Ideal.div (∑ k, x k) (Ideal.ofBits .f32 0x43A80000#32))
          (Ideal.sqrt (Ideal.div (∑ k, (x k - Ideal.div (∑ k', x k') (Ideal.ofBits .f32 0x43A80000#32))
              * (x k - Ideal.div (∑ k', x k') (Ideal.ofBits .f32 0x43A80000#32))) (Ideal.ofBits .f32 0x43A80000#32)
            + Ideal.ofBits .f32 0x3727C5AC#32)) * (w : EReal) + (b : EReal) = ((norm x w b l : ℝ) : EReal) := by
  by_cases h : ∃ k, x k = ⊤ ∨ x k = ⊥
  · have hn : norm x w b l = b := if_pos h
    have hm := mean_inf x h
    rw [hn]
    constructor
    · have hs : Ideal.sqrt (Ideal.div (∑ k, x k * x k) (Ideal.ofBits .f32 0x43A80000#32)
          - Ideal.div (∑ k, x k) (Ideal.ofBits .f32 0x43A80000#32) * Ideal.div (∑ k, x k) (Ideal.ofBits .f32 0x43A80000#32)
          + Ideal.ofBits .f32 0x3727C5AC#32) = ⊥ := by
        rw [mean_sq_inf x h, show ∀ z : EReal, z = ⊤ ∨ z = ⊥ → z * z = ⊤ from fun z hz => by rcases hz with rfl | rfl <;> rfl]
        · rw [show (⊤ : EReal) - ⊤ = ⊥ from rfl, EReal.bot_add]; rfl
        · exact hm
      rw [hs, div_inf _ (Or.inr rfl), mul_zero, mul_zero, sub_zero, zero_add]
    · have hd : ∀ k, x k - Ideal.div (∑ k', x k') (Ideal.ofBits .f32 0x43A80000#32) = ⊤
          ∨ x k - Ideal.div (∑ k', x k') (Ideal.ofBits .f32 0x43A80000#32) = ⊥ := fun k => by
        rcases hm with hm | hm <;> rw [hm]
        · exact Or.inr (by rw [sub_eq_add_neg, EReal.neg_top, EReal.add_bot])
        · by_cases hk : x k = ⊥
          · exact Or.inr (by rw [hk, sub_eq_add_neg, EReal.bot_add])
          · exact Or.inl (by rw [sub_eq_add_neg, EReal.neg_bot, EReal.add_top_of_ne_bot hk])
      have hs : Ideal.sqrt (Ideal.div (∑ k, (x k - Ideal.div (∑ k', x k') (Ideal.ofBits .f32 0x43A80000#32))
              * (x k - Ideal.div (∑ k', x k') (Ideal.ofBits .f32 0x43A80000#32))) (Ideal.ofBits .f32 0x43A80000#32)
            + Ideal.ofBits .f32 0x3727C5AC#32) = ⊤ := by
        rw [mean_sq_inf _ ⟨l, hd l⟩, eps_eq, EReal.top_add_of_ne_bot (EReal.coe_ne_bot _)]; rfl
      rw [hs, div_inf _ (Or.inl rfl), zero_mul, zero_add]
  · have hn : norm x w b l = nrm (fun k => EReal.toReal (x k)) w b l := if_neg h
    push Not at h
    have hx : x = fun k => ((EReal.toReal (x k) : ℝ) : EReal) := funext fun k => (EReal.coe_toReal (h k).1 (h k).2).symm
    rw [hn]
    have := norm_eq (fun k => EReal.toReal (x k)) w b l
    simp only [← congrFun hx] at this
    exact this

/-- The logits of a row from its normalised block and the two layers of the gating net. -/
def logit (u : Fin 21 → Fin 336 → EReal) (w1 : Fin 336 → Fin 256 → EReal) (w2 : Fin 256 → Fin 8 → EReal) (e : Fin 8) : EReal :=
  ∑ k, max (∑ l, Ideal.div (∑ c, u c l) (Ideal.ofBits .f32 0x41A80000#32) * w1 l k) 0 * w2 k e

end Cert.Math
-- ==== Proof.Trend.lean ====
/-
  The moving average of a row with its ends repeated, and the two matrices that fold it into the weights.
-/
module

public import proofs.«01_k».proof.Proof.Norm

@[expose] public section

noncomputable section

namespace Cert.Math

open Finset

/-- The step that place `p` of the padded row repeats: twelve places are added at each end. -/
def clip (p : ℕ) : Fin 336 := ⟨min 335 (p - 12), by omega⟩

/-- The moving average: the mean of 25 places of the padded row. -/
def trend (x : Fin 336 → ℝ) (j : Fin 336) : ℝ := (∑ k ∈ range 25, x (clip (j.val + k))) / 25

/-- How often step `l` is met in the 25 places of step `j`. -/
def hits (l j : Fin 336) : ℝ := ∑ k ∈ range 25, if clip (j.val + k) = l then 1 else 0

theorem sum_hits (x : Fin 336 → ℝ) (j : Fin 336) : ∑ l, x l * hits l j = 25 * trend x j := by
  unfold hits trend
  simp only [mul_sum]
  rw [sum_comm, mul_div_cancel₀ _ (by norm_num : (25 : ℝ) ≠ 0)]
  refine sum_congr rfl fun k _ => ?_
  simp

/-- The difference of two running sums is the sum of the places between. -/
theorem trend_eq (x : Fin 336 → ℝ) (j : Fin 336) :
    (∑ p ∈ range (j.val + 25), x (clip p) - ∑ p ∈ range j.val, x (clip p)) / 25 = trend x j := by
  rw [sum_range_add (fun p => x (clip p)), add_sub_cancel_left]; rfl

/-- A row times the folded weights is its rest times the first weights and its moving average times the second. -/
theorem fold_eq (x ws wt : Fin 336 → ℝ) :
    ∑ l, x l * (∑ j, (25 * (if l = j then 1 else 0) - hits l j) / 25 * ws j + ∑ j, hits l j / 25 * wt j)
      = ∑ j, (x j - trend x j) * ws j + ∑ j, trend x j * wt j := by
  simp only [mul_add, sum_add_distrib, mul_sum]
  congr 1
  · rw [sum_comm]
    refine sum_congr rfl fun j _ => ?_
    have h : ∀ l, x l * ((25 * (if l = j then 1 else 0) - hits l j) / 25 * ws j)
        = (if l = j then x l else 0) * ws j - x l * hits l j * (ws j / 25) := fun l => by split_ifs <;> ring
    simp only [h, sum_sub_distrib, ← sum_mul, sum_hits, sum_ite_eq', mem_univ, if_true]
    ring
  · rw [sum_comm]
    refine sum_congr rfl fun j _ => ?_
    have h : ∀ l, x l * (hits l j / 25 * wt j) = x l * hits l j * (wt j / 25) := fun l => by ring
    simp only [h, ← sum_mul, sum_hits]
    ring

end Cert.Math
-- ==== Proof.GTable.lean ====
/-
  The operands that the host prepares: the transposed input, the spreading table, and the matrix that folds the moving average into the weights.
-/
module

public import proofs.«01_k».proof.Proof.Launch
public import proofs.«01_k».proof.Proof.Rep
public import proofs.«01_k».proof.Proof.Trend
public import Idealize.ShloMosaic.Lib.StableHlo.ReadAt
public import Idealize.ShloMosaic.Lib.Pointwise

@[expose] public section

noncomputable section

namespace Cert.KernelIdeal.Hand

open Idealize.ShloMosaic
open Cert.KernelIdeal.Gen Cert.Math

variable (m : (ℓ : Loc nD τ sig) → Buf (Elt Ideal) ℓ)

/-- The transposed input. -/
theorem input_at (c : Dev nD) (b : Fin 512) (k : Fin 21) (l : Fin 336) :
    V (F := Ideal) m c main_v23 (ix3 b k l) = m ((c.tc : Thread nD τ).loc main_arg0) (ix3 b l k) := by
  unfold V
  after_reads_at

/-- The spreading table. -/
theorem rep_at (c : Dev nD) (r : Fin 1344) (b : Fin 64) :
    V (F := Ideal) m c main_cst (ix2 r b) = (if r.val / 21 = b.val then 1 else 0 : EReal) := by
  have h : V (F := Ideal) m c main_cst (ix2 r b) = Ideal.ofBits .f32 (lit0 (S1344x64.rowMajor (ix2 r b))) := by
    unfold V
    after_reads_at
  have hi : S1344x64.rowMajor (ix2 r b) = (⟨64 * r.val + b.val, by omega⟩ : Fin 86016) := Fin.ext (by
    rw [Shape.rowMajor_val_two]
    show r.val * 64 + b.val = 64 * r.val + b.val
    omega)
  rw [h, hi, lit_at]
  split_ifs
  · simp [Ideal.ofBits, Ideal.ieee, -EReal.coe_mul]; norm_num
  · simp [Ideal.ofBits, Ideal.ieee, -EReal.coe_mul]

/-- The place the host computes: the step a place of the padded row repeats. -/
theorem word_clip (j : ℕ) (k : Fin 25) (hj : j < 336) :
    IntOp.minsi (IntOp.maxsi (IntOp.subi (IntOp.addi (BitVec.ofNat 32 j) (BitVec.ofNat 32 k.val)) 12#32) 0#32) 335#32
      = BitVec.ofNat 32 (clip (j + k.val)).val := by
  have h : ∀ n : Fin 360, IntOp.minsi (IntOp.maxsi (IntOp.subi (BitVec.ofNat 32 n.val) 12#32) 0#32) 335#32
      = BitVec.ofNat 32 (min 335 (n.val - 12)) := by decide +kernel
  have ha : IntOp.addi (BitVec.ofNat 32 j) (BitVec.ofNat 32 k.val) = BitVec.ofNat 32 (j + k.val) := (BitVec.ofNat_add j k.val).symm
  rw [ha]
  exact h ⟨j + k.val, by omega⟩

/-- Whether two steps are one, as a number. -/
theorem bit_step (i l : Fin 336) :
    FloatOps.uitofp (F := Ideal) .f32 (IntOp.cmpi .eq (BitVec.ofNat 32 i.val) (BitVec.ofNat 32 l.val)) = (((if i = l then 1 else 0 : ℝ)) : EReal) := by
  have h : IntOp.cmpi .eq (BitVec.ofNat 32 i.val) (BitVec.ofNat 32 l.val) = BitVec.ofBool (decide (i = l)) := by
    show BitVec.ofBool (decide _) = _
    congr 1
    refine decide_eq_decide.2 ⟨fun h => Fin.ext ?_, fun h => by rw [h]⟩
    have := congrArg BitVec.toNat h
    rw [BitVec.toNat_ofNat, BitVec.toNat_ofNat] at this
    omega
  rw [h]
  show (((BitVec.ofBool (decide (i = l))).toNat : ℝ) : EReal) = _
  by_cases hi : i = l <;> simp [hi]

/-- How often a step is met, as the host adds it up. -/
theorem hits_at (l : Fin 336) (j : ℕ) (hj : j < 336) :
    (∑ x : Fin 25, FloatOps.uitofp (F := Ideal) .f32 (IntOp.cmpi .eq
      (IntOp.minsi (IntOp.maxsi (IntOp.subi (IntOp.addi (BitVec.ofNat 32 j) (BitVec.ofNat 32 x.val)) 12#32) 0#32) 335#32)
      (BitVec.ofNat 32 l.val)) : EReal) = ((hits l ⟨j, hj⟩ : ℝ) : EReal) := by
  unfold hits
  rw [Finset.sum_range, ← coe_sum]
  refine Finset.sum_congr rfl fun x _ => ?_
  rw [word_clip j x hj, bit_step]

/-- The first half of the folding matrix. -/
theorem fold_fst (c : Dev nD) (l j : Fin 336) :
    V (F := Ideal) m c main_v22 (ix2 l ⟨j.val, by omega⟩) = (((25 * (if l = j then 1 else 0) - hits l j) / 25 : ℝ) : EReal) := by
  unfold V
  after_reads_at
  after_reads_at
  have hj := j.isLt
  rw [c25]
  refine (congrArg (fun z => Ideal.div (_ * _ - z) _) (hits_at l j.val hj)).trans ?_
  rw [bit_step, ← EReal.coe_mul, ← EReal.coe_sub, div_real _ _ (by norm_num)]

/-- The second half of the folding matrix. -/
theorem fold_snd (c : Dev nD) (l j : Fin 336) :
    V (F := Ideal) m c main_v22 (ix2 l ⟨336 + j.val, by omega⟩) = ((hits l j / 25 : ℝ) : EReal) := by
  unfold V
  after_reads_at
  after_reads_at
  have hj := j.isLt
  rw [c25]
  refine (congrArg (fun z => Ideal.div z _) (hits_at l j.val hj)).trans ?_
  rw [div_real _ _ (by norm_num)]

end Cert.KernelIdeal.Hand
-- ==== Proof.Blocks.lean ====
/-
  The blocks of a grid step: of the transposed input the step's own rows, of every other input the whole array.
-/
module

public import proofs.«01_k».proof.Proof.Launch
public import proofs.«01_k».proof.Proof.GTable

@[expose] public section

noncomputable section

namespace Cert.KernelIdeal.Hand

open Idealize.ShloMosaic
open Cert.KernelIdeal.Gen Cert.Math

variable (m : (ℓ : Loc nD τ sig) → Buf (Elt Ideal) ℓ) (c : Dev nD) (t : Fin cfg0.N)

/-- The input's block at each point. -/
theorem index_0 : ∀ t : Fin cfg0.N, win0_0.index t = ![t.val, 0, 0] := (by decide +kernel : ∀ t : Fin grid0.N, win0_0.index t = ![t.val, 0, 0])
theorem index_1 : ∀ t : Fin cfg0.N, win0_1.index t = ![0] := (by decide +kernel : ∀ t : Fin grid0.N, win0_1.index t = ![0])
theorem index_2 : ∀ t : Fin cfg0.N, win0_2.index t = ![0] := (by decide +kernel : ∀ t : Fin grid0.N, win0_2.index t = ![0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])
theorem index_5 : ∀ t : Fin cfg0.N, win0_5.index t = ![0, 0, 0] := (by decide +kernel : ∀ t : Fin grid0.N, win0_5.index t = ![0, 0, 0])
theorem index_6 : ∀ t : Fin cfg0.N, win0_6.index t = ![0, 0] := (by decide +kernel : ∀ t : Fin grid0.N, win0_6.index t = ![0, 0])
theorem index_7 : ∀ t : Fin cfg0.N, win0_7.index t = ![0, 0, 0] := (by decide +kernel : ∀ t : Fin grid0.N, win0_7.index t = ![0, 0, 0])
theorem index_8 : ∀ t : Fin cfg0.N, win0_8.index t = ![0, 0] := (by decide +kernel : ∀ t : Fin grid0.N, win0_8.index t = ![0, 0])
theorem index_9 : ∀ t : Fin cfg0.N, win0_9.index t = ![0, 0] := (by decide +kernel : ∀ t : Fin grid0.N, win0_9.index t = ![0, 0])
theorem index_10 : ∀ t : Fin cfg0.N, win0_10.index t = ![0, 0] := (by decide +kernel : ∀ t : Fin grid0.N, win0_10.index t = ![0, 0])

/-- The row of the whole batch that a row of a block is. -/
def rowOf (b : Fin 64) : Fin 512 := ⟨t.val * 64 + b.val, by have := t.isLt; have h : cfg0.N = 8 := N_0; omega⟩

theorem blk_0 (b : Fin 64) (k : Fin 21) (l : Fin 336) :
    (iblk m c 0 t : FVec Ideal S64x21x336 .f32) (ix3 b k l) = m ((c.tc : Thread nD τ).loc main_arg0) (ix3 (rowOf t b) l k) := by
  rw [← input_at m c]
  blk_ext [iblk, index_0, rowOf]

theorem blk_1 : (iblk m c 1 t : FVec Ideal S21 .f32) = m ((c.tc : Thread nD τ).loc main_arg1) := by
  rw [← V_main_arg1 m c]; funext y; blk_ext [iblk, index_1]
theorem blk_2 : (iblk m c 2 t : FVec Ideal S21 .f32) = m ((c.tc : Thread nD τ).loc main_arg2) := by
  rw [← V_main_arg2 m c]; funext y; blk_ext [iblk, index_2]
theorem blk_3 : (iblk m c 3 t : FVec Ideal S336x256 .f32) = m ((c.tc : Thread nD τ).loc main_arg3) := by
  rw [← V_main_arg3 m c]; funext y; blk_ext [iblk, index_3]
theorem blk_4 : (iblk m c 4 t : FVec Ideal S256x8 .f32) = m ((c.tc : Thread nD τ).loc main_arg4) := by
  rw [← V_main_arg4 m c]; funext y; blk_ext [iblk, index_4]
theorem blk_5 : (iblk m c 5 t : FVec Ideal S8x256x336 .f32) = m ((c.tc : Thread nD τ).loc main_arg5) := by
  rw [← V_main_arg5 m c]; funext y; blk_ext [iblk, index_5]
theorem blk_6 : (iblk m c 6 t : FVec Ideal S8x256 .f32) = m ((c.tc : Thread nD τ).loc main_arg6) := by
  rw [← V_main_arg6 m c]; funext y; blk_ext [iblk, index_6]
theorem blk_7 : (iblk m c 7 t : FVec Ideal S8x256x336 .f32) = m ((c.tc : Thread nD τ).loc main_arg7) := by
  rw [← V_main_arg7 m c]; funext y; blk_ext [iblk, index_7]
theorem blk_8 : (iblk m c 8 t : FVec Ideal S8x256 .f32) = m ((c.tc : Thread nD τ).loc main_arg8) := by
  rw [← V_main_arg8 m c]; funext y; blk_ext [iblk, index_8]
theorem blk_9 : (iblk m c 9 t : FVec Ideal S336x672 .f32) = V (F := Ideal) m c main_v22 := by
  funext y; blk_ext [iblk, index_9]
theorem blk_10 : (iblk m c 10 t : FVec Ideal S1344x64 .f32) = V (F := Ideal) m c main_cst := by
  funext y; blk_ext [iblk, index_10]

end Cert.KernelIdeal.Hand
-- ==== Proof.NormK.lean ====
/-
  The normalised block, the hidden values and the blended weights of a grid step, read at a coordinate.
-/
module

public import proofs.«01_k».proof.Proof.Out
public import proofs.«01_k».proof.Proof.Norm
public import Idealize.ShloMosaic.Lib.Pointwise

@[expose] public section

noncomputable section

namespace Cert.KernelIdeal.Hand

open Idealize.ShloMosaic
open Cert.KernelIdeal.Gen Cert.Math

/-- The normalised block, of a finite scale and shift. -/
theorem pay12_at (x : FVec Ideal S64x21x336 .f32) (rw rb : FVec Ideal S21 .f32) (b : Fin 64) (c : Fin 21) (l : Fin 336)
    (w β : ℝ) (hw : rw (ix1 c) = (w : EReal)) (hb : rb (ix1 c) = (β : EReal)) :
    k0_pay12 (F := Ideal) x rw rb (ix3 b c l) = ((norm (fun l => x (ix3 b c l)) w β l : ℝ) : EReal) := by
  pointwise [k0_pay12]
  simp only [hw, hb]
  exact (norm_any (fun l => x (ix3 b c l)) w β l).1

/-- The hidden values. -/
theorem pay13_at (x : FVec Ideal S64x21x336 .f32) (rw rb : FVec Ideal S21 .f32) (w1 : FVec Ideal S336x256 .f32) (b : Fin 64) (k : Fin 256) :
    k0_pay13 (F := Ideal) x rw rb w1 (ix2 b k)
      = max (∑ l : Fin 336, Ideal.div (∑ c : Fin 21, k0_pay12 (F := Ideal) x rw rb (ix3 b c l)) (Ideal.ofBits .f32 0x41A80000#32)
          * w1 (ix2 l k)) 0 := by
  pointwise [k0_pay13]

/-- The folded weights. -/
theorem weff_at (ws wt : FVec Ideal S8x256x336 .f32) (g : FVec Ideal S336x672 .f32) (e : Fin 8) (l : Fin 336) (d : Fin 256) :
    weff (F := Ideal) ws wt g (ix3 e l d) = ∑ j : Fin 336, g (ix2 l ⟨j.val, by omega⟩) * ws (ix3 e d j)
      + ∑ j : Fin 336, g (ix2 l ⟨336 + j.val, by omega⟩) * wt (ix3 e d j) := by
  unfold weff
  pointwise [k0_pay1, wslab]
  rfl

/-- One expert's share of a result. -/
def share (x : FVec Ideal S64x21x336 .f32) (rw rb : FVec Ideal S21 .f32) (W : FVec Ideal S8x336x256 .f32) (b : Fin 64) (c : Fin 21) (d : Fin 256)
    (e : Fin 8) : EReal := ∑ l : Fin 336, k0_pay12 (F := Ideal) x rw rb (ix3 b c l) * W (ix3 e l d)

/-- The gates of a row as they are spread over the rows of the result. -/
def spread (rep : FVec Ideal S1344x64 .f32) (g : Vec Ideal S64x8 .f32) (b : Fin 64) (c : Fin 21) (e : Fin 8) : EReal :=
  ∑ k : Fin 64, rep (ix2 ⟨b.val * 21 + c.val, by omega⟩ k) * g (ix2 k e)

/-- The block of the result. -/
theorem yOut_at (x : Vec Ideal S64x21x336 .f32) (rw rb : Vec Ideal S21 .f32) (w1 : Vec Ideal S336x256 .f32) (w2 : Vec Ideal S256x8 .f32)
    (bs bt : Vec Ideal S8x256 .f32) (rep : Vec Ideal S1344x64 .f32) (W : Vec Ideal S8x336x256 .f32) (b : Fin 64) (c : Fin 21) (d : Fin 256) :
    yOut (F := Ideal) x rw rb w1 w2 bs bt rep W (ix3 b c d)
      = ∑ e : Fin 8, spread rep (gOut (F := Ideal) x rw rb w1 w2) b c e * (bs (ix2 e d) + bt (ix2 e d))
        + ∑ e : Fin 8, spread rep (gOut (F := Ideal) x rw rb w1 w2) b c e * share x rw rb W b c d e := by
  have hg : k0_pay23 (F := Ideal) (k0_pay20 (k0_pay13 x rw rb w1) w2) (k0_pay21 (k0_pay13 x rw rb w1) w2) 0
    (k0_pay22 (k0_pay13 x rw rb w1) w2) = gOut (F := Ideal) x rw rb w1 w2 := by unfold gOut; pointwise!
  unfold yOut
  pointwise [k0_pay27, k0_pay26, k0_pay25, k0_pay24, slab]
  unfold spread share
  rw [hg, Fin.sum_univ_eight (fun e => _ * ∑ l : Fin 336, _)]
  simp only [add_assoc]
  rfl

end Cert.KernelIdeal.Hand
-- ==== Proof.Row.lean ====
/-
  One row of eight extended reals: its softmax, its two greatest entries with the least positions, and the gates that are
  placed there. What two programs call the gates of a row is one function, whichever way each finds the two entries.
-/
module

public import proofs.«01_k».proof.Proof.Norm

@[expose] public section

noncomputable section

namespace Cert.Math

open Idealize.ShloMosaic

/-- The greatest entry. -/
def top (z : Fin 8 → EReal) : EReal := Finset.univ.fold max ⊥ z

/-- The softmax of a row. -/
def soft (z : Fin 8 → EReal) (e : Fin 8) : EReal := Ideal.div (Ideal.exp (z e - top z)) (∑ k, Ideal.exp (z k - top z))

theorem le_top (z : Fin 8 → EReal) (k : Fin 8) : z k ≤ top z := (Finset.le_fold_max _).2 (Or.inr ⟨k, Finset.mem_univ _, le_rfl⟩)

/-- An entry no other exceeds is the greatest. -/
theorem top_eq {z : Fin 8 → EReal} {i : Fin 8} (h : ∀ k, z k ≤ z i) : top z = z i :=
  le_antisymm ((Finset.fold_max_le _).2 ⟨bot_le, fun k _ => h k⟩) (le_top z i)

theorem exists_top (z : Fin 8 → EReal) : ∃ i, z i = top z := by
  obtain ⟨i, _, h⟩ := Finset.exists_max_image (Finset.univ : Finset (Fin 8)) z ⟨0, Finset.mem_univ _⟩
  exact ⟨i, (top_eq fun k => h k (Finset.mem_univ _)).symm⟩

/-- The exponentials of a row with no entry below zero to divide by: nothing divided by nothing. -/
theorem soft_bot {z : Fin 8 → EReal} (h : ∀ k, z k - top z = ⊥) (e : Fin 8) : soft z e = ⊥ := by
  unfold soft
  simp only [h]
  show Ideal.div 0 (∑ _k : Fin 8, (0 : EReal)) = ⊥
  rw [Finset.sum_const_zero]
  simp [Ideal.div]

/-- A softmax row is all nonnegative reals or, where the greatest logit is infinite, all minus infinity. -/
theorem soft_cases (z : Fin 8 → EReal) : (∀ e, ∃ r : ℝ, 0 ≤ r ∧ soft z e = (r : EReal)) ∨ ∀ e, soft z e = ⊥ := by
  obtain ⟨i, hi⟩ := exists_top z
  rcases h : top z with _ | _ | M
  · change top z = ⊥ at h
    refine Or.inr (soft_bot fun k => ?_)
    have hk : z k = ⊥ := le_bot_iff.1 (h ▸ le_top z k)
    rw [hk, h]; simp
  · change top z = ⊤ at h
    refine Or.inr (soft_bot fun k => ?_)
    rw [h]; simp
  · change top z = ((M : ℝ) : EReal) at h
    left
    have hw : ∀ k, ∃ r : ℝ, 0 ≤ r ∧ Ideal.exp (z k - top z) = (r : EReal) := fun k => by
      have hk := h ▸ le_top z k
      rw [h]
      rcases hz : z k with _ | _ | x
      · exact ⟨0, le_rfl, by show Ideal.exp ((⊥ : EReal) - (M : EReal)) = _; rw [EReal.bot_sub]; rfl⟩
      · rw [hz] at hk; exact absurd (top_le_iff.1 hk) (EReal.coe_ne_top _)
      · refine ⟨Real.exp (x - M), (Real.exp_pos _).le, ?_⟩
        show Ideal.exp ((x : EReal) - (M : EReal)) = _
        rw [← EReal.coe_sub, Ideal.exp_coe]
    choose r hr0 hr using hw
    have hri : r i = 1 := by
      have := hr i
      rw [hi, h, ← EReal.coe_sub, sub_self, Ideal.exp_coe, Real.exp_zero] at this
      exact (EReal.coe_injective this).symm
    have hs : 0 < ∑ k, r k := lt_of_lt_of_le (by rw [hri]; norm_num) (Finset.single_le_sum (fun k _ => hr0 k) (Finset.mem_univ i))
    intro e
    refine ⟨r e / ∑ k, r k, div_nonneg (hr0 e) hs.le, ?_⟩
    unfold soft
    simp only [hr]
    rw [coe_sum, div_real _ _ hs.ne']

/-- Position `a` comes before position `b`: its entry is greater, or equal at a lesser position. -/
def Before (p : Fin 8 → EReal) (a b : Fin 8) : Prop := p b < p a ∨ (p b = p a ∧ a < b)

theorem Before.asymm {p : Fin 8 → EReal} {a b : Fin 8} (h : Before p a b) (h' : Before p b a) : False := by
  rcases h with h | ⟨h, hl⟩ <;> rcases h' with h' | ⟨h', hl'⟩
  · exact lt_asymm h h'
  · exact h.ne' h'
  · exact h'.ne' h
  · exact absurd hl (not_lt.2 hl'.le)

theorem Before.le {p : Fin 8 → EReal} {a b : Fin 8} (h : Before p a b) : p b ≤ p a := h.elim le_of_lt fun h => h.1.le

/-- The first position. -/
def IsFst (p : Fin 8 → EReal) (i : Fin 8) : Prop := ∀ k, k ≠ i → Before p i k

/-- The second position. -/
def IsSnd (p : Fin 8 → EReal) (i j : Fin 8) : Prop := j ≠ i ∧ ∀ k, k ≠ i → k ≠ j → Before p j k

theorem IsFst.unique {p : Fin 8 → EReal} {i i' : Fin 8} (h : IsFst p i) (h' : IsFst p i') : i = i' := by
  by_contra hne
  exact (h i' (Ne.symm hne)).asymm (h' i hne)

theorem IsSnd.unique {p : Fin 8 → EReal} {i j j' : Fin 8} (h : IsSnd p i j) (h' : IsSnd p i j') : j = j' := by
  by_contra hne
  exact (h.2 j' h'.1 (Ne.symm hne)).asymm (h'.2 j h.1 hne)

/-- The gates with the two positions given. -/
def gateAt (p : Fin 8 → EReal) (i j e : Fin 8) : EReal :=
  if e = i then Ideal.div (p i) (p i + p j + Ideal.ofBits .f32 0x358637BD#32)
  else if e = j then Ideal.div (p j) (p i + p j + Ideal.ofBits .f32 0x358637BD#32) else 0

/-- A quotient of two minus infinities is nothing. -/
theorem div_bot_bot : Ideal.div ⊥ ⊥ = 0 := by simp [Ideal.div]

/-- The denominator of two minus infinities. -/
theorem den_bot : (⊥ : EReal) + ⊥ + Ideal.ofBits .f32 0x358637BD#32 = ⊥ := by simp

theorem gateAt_bot {p : Fin 8 → EReal} (h : ∀ e, p e = ⊥) (i j e : Fin 8) : gateAt p i j e = 0 := by
  unfold gateAt
  rw [h i, h j, den_bot, div_bot_bot]
  simp

/-- `g` is the gates of the row `p`. -/
def IsGate (p g : Fin 8 → EReal) : Prop :=
  (∃ i j, IsFst p i ∧ IsSnd p i j ∧ ∀ e, g e = gateAt p i j e) ∨ ((∀ e, p e = ⊥) ∧ ∀ e, g e = 0)

/-- A row has one gates. -/
theorem IsGate.unique {p g g' : Fin 8 → EReal} (h : IsGate p g) (h' : IsGate p g') : g = g' := by
  funext e
  rcases h with ⟨i, j, hi, hj, hg⟩ | ⟨hb, hg⟩ <;> rcases h' with ⟨i', j', hi', hj', hg'⟩ | ⟨hb', hg'⟩
  · obtain rfl := hi.unique hi'
    obtain rfl := hj.unique hj'
    rw [hg, hg']
  · rw [hg, hg', gateAt_bot hb']
  · rw [hg, hg', gateAt_bot hb]
  · rw [hg, hg']

/-- The gates of a softmax row are nonnegative reals. -/
theorem IsGate.real {z g : Fin 8 → EReal} (h : IsGate (soft z) g) (e : Fin 8) : ∃ r : ℝ, 0 ≤ r ∧ g e = (r : EReal) := by
  rcases h with ⟨i, j, -, -, hg⟩ | ⟨-, hg⟩
  · rw [hg]
    rcases soft_cases z with hr | hb
    · obtain ⟨ε, hε, hc⟩ := cEps2
      obtain ⟨a, ha, hpa⟩ := hr i
      obtain ⟨b, hb, hpb⟩ := hr j
      have hd : 0 < a + b + ε := by positivity
      unfold gateAt
      rw [hpa, hpb, hc, ← EReal.coe_add, ← EReal.coe_add, div_real _ _ hd.ne', div_real _ _ hd.ne']
      split_ifs
      · exact ⟨_, div_nonneg ha hd.le, rfl⟩
      · exact ⟨_, div_nonneg hb hd.le, rfl⟩
      · exact ⟨0, le_rfl, rfl⟩
    · rw [gateAt_bot hb]; exact ⟨0, le_rfl, rfl⟩
  · rw [hg]; exact ⟨0, le_rfl, rfl⟩

end Cert.Math
-- ==== Proof.RowMin.lean ====
/-
  The kernel's way to the gates of a row: the greatest entry and its least lane, that lane put out, the same again.
-/
module

public import proofs.«01_k».proof.Proof.Row

@[expose] public section

noncomputable section

namespace Cert.Math

open Idealize.ShloMosaic

/-- The least lane that passes a test, as the word a minimum over the lanes leaves. -/
def minPos (q : Fin 8 → Bool) : BitVec 32 :=
  Finset.univ.fold IntOp.minsi (2147483647#32) (fun x : Fin 8 => if q x then BitVec.ofNat 32 x.val else 8#32)

set_option maxRecDepth 100000 in
/-- It is the first lane that passes. -/
theorem minPos_eq : ∀ (q : Fin 8 → Bool) (i : Fin 8), q i = true → (∀ k, k < i → q k = false) → minPos q = BitVec.ofNat 32 i.val := by
  unfold minPos
  decide +kernel

/-- A lane compared with a lane's word. -/
theorem select_lane {α : Type} (e i : Fin 8) (a b : α) :
    Scalar.select (IntOp.cmpi .eq (BitVec.ofNat 32 e.val) (BitVec.ofNat 32 i.val)) a b = if e = i then a else b := by
  have h : ∀ e i : Fin 8, IntOp.cmpi .eq (BitVec.ofNat 32 e.val) (BitVec.ofNat 32 i.val) = BitVec.ofBool (decide (e = i)) := by decide
  rw [h]
  by_cases he : e = i
  · simp [he, Scalar.select]
  · simp [he, Scalar.select]

/-- The row with one lane put out. -/
def without (p : Fin 8 → EReal) (w : BitVec 32) (x : Fin 8) : EReal := Scalar.select (IntOp.cmpi .eq (BitVec.ofNat 32 x.val) w) ⊥ (p x)

/-- The first lane that holds the greatest entry. -/
def argPos (p : Fin 8 → EReal) : BitVec 32 := minPos fun x => decide (p x = top p)

/-- The first lane of the greatest entry, as a lane: no lane before it holds that entry. -/
theorem exists_argPos (p : Fin 8 → EReal) : ∃ i, argPos p = BitVec.ofNat 32 i.val ∧ p i = top p ∧ ∀ k, k < i → p k ≠ top p := by
  classical
  have hne : (Finset.univ.filter fun i => p i = top p).Nonempty := by
    obtain ⟨i, hi⟩ := exists_top p
    exact ⟨i, Finset.mem_filter.2 ⟨Finset.mem_univ _, hi⟩⟩
  set i := (Finset.univ.filter fun i => p i = top p).min' hne with hi
  have h1 : p i = top p := (Finset.mem_filter.1 (Finset.min'_mem _ hne)).2
  have h2 : ∀ k, k < i → p k ≠ top p := fun k hk hp =>
    absurd (Finset.min'_le _ k (Finset.mem_filter.2 ⟨Finset.mem_univ _, hp⟩)) (not_le.2 hk)
  exact ⟨i, minPos_eq _ i (decide_eq_true h1) fun k hk => decide_eq_false (h2 k hk), h1, h2⟩

/-- The gates by two maxima over the lanes. -/
def minGate (p : Fin 8 → EReal) (e : Fin 8) : EReal :=
  Scalar.select (IntOp.cmpi .eq (BitVec.ofNat 32 e.val) (argPos p))
      (Ideal.div (top p) (top p + top (without p (argPos p)) + Ideal.ofBits .f32 0x358637BD#32)) 0
    + Scalar.select (IntOp.cmpi .eq (BitVec.ofNat 32 e.val) (argPos (without p (argPos p))))
      (Ideal.div (top (without p (argPos p))) (top p + top (without p (argPos p)) + Ideal.ofBits .f32 0x358637BD#32)) 0

/-- They are the gates of the row, where it is a softmax. -/
theorem isGate_minGate (z : Fin 8 → EReal) : IsGate (soft z) (minGate (soft z)) := by
  set p := soft z with hp
  obtain ⟨i, hw, hi, hlt⟩ := exists_argPos p
  have hwo : ∀ x, without p (argPos p) x = if x = i then ⊥ else p x := fun x => by unfold without; rw [hw, select_lane]
  obtain ⟨j, hw2, hj, hlt2⟩ := exists_argPos (without p (argPos p))
  rcases soft_cases z with hr | hb
  · have hreal : ∀ x, p x ≠ ⊥ := fun x => by obtain ⟨r, -, h⟩ := hr x; rw [hp, h]; exact EReal.coe_ne_bot _
    have hji : j ≠ i := by
      rintro rfl
      obtain ⟨k, hk⟩ : ∃ k : Fin 8, k ≠ j := ⟨if j = 0 then 1 else 0, by split_ifs with h <;> [rw [h]; exact Ne.symm h]; decide⟩
      have hle := le_top (without p (argPos p)) k
      rw [← hj, hwo, hwo, if_pos rfl, if_neg hk, le_bot_iff] at hle
      exact hreal k hle
    have hpj : top (without p (argPos p)) = p j := by rw [← hj, hwo, if_neg hji]
    refine Or.inl ⟨i, j, fun k hk => ?_, ⟨hji, fun k hki hkj => ?_⟩, fun e => ?_⟩
    · rcases (le_top p k).lt_or_eq with h | h
      · exact Or.inl (hi ▸ h)
      · refine Or.inr ⟨h.trans hi.symm, lt_of_le_of_ne (not_lt.1 fun hki => hlt k hki h) (Ne.symm hk)⟩
    · have hk : without p (argPos p) k = p k := by rw [hwo, if_neg hki]
      rcases (le_top (without p (argPos p)) k).lt_or_eq with h | h
      · rw [hk, hpj] at h; exact Or.inl h
      · have h' := h
        rw [hk, hpj] at h'
        exact Or.inr ⟨h', lt_of_le_of_ne (not_lt.1 fun hkj' => hlt2 k hkj' h) (Ne.symm hkj)⟩
    · unfold minGate gateAt
      rw [hw2, hw, select_lane, select_lane, ← hw, hpj, ← hi]
      by_cases he : e = i
      · rw [if_pos he, if_neg (fun h => hji (h.symm.trans he)), if_pos he, add_zero]
      · rw [if_neg he, if_neg he, zero_add]
  · refine Or.inr ⟨hb, fun e => ?_⟩
    have ht : top p = ⊥ := by rw [← hi]; exact hb i
    have ht2 : top (without p (argPos p)) = ⊥ := by
      rw [← hj, hwo]; split_ifs <;> [rfl; exact hb j]
    unfold minGate
    rw [ht, ht2, den_bot, div_bot_bot, hw2, hw, select_lane, select_lane]
    simp

end Cert.Math
-- ==== Proof.GateK.lean ====
/-
  The gates a grid step computes, read at a coordinate: those of the softmax of the row's logits.
-/
module

public import proofs.«01_k».proof.Proof.Out
public import proofs.«01_k».proof.Proof.RowMin
public import Idealize.ShloMosaic.Lib.Pointwise

@[expose] public section

noncomputable section

namespace Cert.KernelIdeal.Hand

open Idealize.ShloMosaic
open Cert.KernelIdeal.Gen Cert.Math

/-- The logits of a row of hidden values. -/
def zK (h : FVec Ideal S64x256 .f32) (w2 : FVec Ideal S256x8 .f32) (b : Fin 64) (e : Fin 8) : EReal := ∑ k : Fin 256, h (ix2 b k) * w2 (ix2 k e)

theorem pay14_at (h : FVec Ideal S64x256 .f32) (w2 : FVec Ideal S256x8 .f32) (b : Fin 64) (e : Fin 8) :
    k0_pay14 (F := Ideal) h w2 (ix2 b e) = soft (zK h w2 b) e := by
  pointwise [k0_pay14]
  simp only [cNegInf]
  rfl

theorem pay15_at (h : FVec Ideal S64x256 .f32) (w2 : FVec Ideal S256x8 .f32) (b : Fin 64) :
    k0_pay15 (F := Ideal) h w2 (ix2 b 0) = top (soft (zK h w2 b)) := by
  pointwise [k0_pay15]
  simp only [cNegInf, pay14_at]
  rfl

theorem pay16_at (h : FVec Ideal S64x256 .f32) (w2 : FVec Ideal S256x8 .f32) (b : Fin 64) :
    k0_pay16 (F := Ideal) h w2 (ix2 b 0) = argPos (soft (zK h w2 b)) := by
  pointwise [k0_pay16, k0_pay15]
  simp only [cNegInf, pay14_at]
  unfold argPos minPos top
  simp only [decide_eq_true_eq]

theorem pay17_at (h : FVec Ideal S64x256 .f32) (w2 : FVec Ideal S256x8 .f32) (b : Fin 64) (e : Fin 8) :
    k0_pay17 (F := Ideal) h w2 (ix2 b e) = without (soft (zK h w2 b)) (argPos (soft (zK h w2 b))) e := by
  pointwise [k0_pay17]
  simp only [cNegInf, pay14_at, pay16_at]
  rfl

theorem pay18_at (h : FVec Ideal S64x256 .f32) (w2 : FVec Ideal S256x8 .f32) (b : Fin 64) :
    k0_pay18 (F := Ideal) h w2 (ix2 b 0) = top (without (soft (zK h w2 b)) (argPos (soft (zK h w2 b)))) := by
  pointwise [k0_pay18]
  simp only [cNegInf, pay17_at]
  rfl

/-- The gates of a row. -/
theorem gates_at (h : FVec Ideal S64x256 .f32) (w2 : FVec Ideal S256x8 .f32) (b : Fin 64) (e : Fin 8) :
    k0_pay23 (F := Ideal) (k0_pay20 h w2) (k0_pay21 h w2) (Scalar.ofBits .f32 0x00000000#32) (k0_pay22 h w2) (ix2 b e)
      = minGate (soft (zK h w2 b)) e := by
  pointwise [k0_pay23, k0_pay20, k0_pay21, k0_pay22, k0_pay19]
  simp only [pay15_at, pay16_at, pay17_at, pay18_at]
  unfold minGate
  rw [argPos.eq_1 (without _ _)]
  unfold minPos
  simp only [decide_eq_true_eq]

end Cert.KernelIdeal.Hand
-- ==== Proof.RowsR.lean ====
/-
  The reference's normalised rows and the softmax of their logits, read at a coordinate.
-/
module

public import proofs.«01_k».proof.Proof.Gen.ReferenceIdeal.Read
public import proofs.«01_k».proof.Proof.Row
public import Idealize.ShloMosaic.Lib.Pointwise

@[expose] public section

noncomputable section

namespace Cert.ReferenceIdeal.Hand

open Idealize.ShloMosaic
open Cert.ReferenceIdeal.Read Cert.Math

/-- The normalised rows, of a finite scale and shift. -/
theorem v17_at (x : FVec Ideal S512x336x21 .f32) (rw rb : FVec Ideal S21 .f32) (b : Fin 512) (l : Fin 336) (c : Fin 21)
    (w β : ℝ) (hw : rw (ix1 c) = (w : EReal)) (hb : rb (ix1 c) = (β : EReal)) :
    val_main_v17 (F := Ideal) x rw rb (ix3 b l c) = ((norm (fun l => x (ix3 b l c)) w β l : ℝ) : EReal) := by
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_call0_v0, val_main_call0_v1, val_main_call0_v2, val_main_call0_v3, val_main_call0_v4, val_main_call0_v5, val_main_call0_v6,
    val_main_call0_v7, val_main_call0_v8, val_main_call0_v9, val_main_call0_v10, val_main_call0_v11, val_main_call0_v12, val_main_call0_v13,
    val_main_call0_call0_v0, val_main_call0_call0_v1, val_main_cst, val_main_cst_0, val_main_cst_1, val_main_call0_cst, val_main_call0_cst_0,
    val_main_call0_cst_1, val_main_call0_cst_2, val_main_call0_cst_3, val_main_call0_cst_4, val_main_c]
  have hn : Ideal.ofBits .f32 0x43A80000#32 - FloatOps.sitofp (F := Ideal) .f32 (0#32) = Ideal.ofBits .f32 0x43A80000#32 := by
    rw [sitofp_zero]; simp
  have hp : (0 : EReal) < Ideal.ofBits .f32 0x43A80000#32 := by rw [c336]; exact_mod_cast (by norm_num : (0 : ℝ) < 336)
  simp only [hw, hb, hn, if_pos hp]
  exact (norm_any (fun l => x (ix3 b l c)) w β l).2

/-- The logits of a row. -/
def zR (x : FVec Ideal S512x336x21 .f32) (rw rb : FVec Ideal S21 .f32) (w1 : FVec Ideal S336x256 .f32) (w2 : FVec Ideal S256x8 .f32) (b : Fin 512) :
    Fin 8 → EReal :=
  logit (fun c l => val_main_v17 (F := Ideal) x rw rb (ix3 b l c)) (fun l k => w1 (ix2 l k)) (fun k e => w2 (ix2 k e))

/-- The softmax of the logits. -/
theorem v34_at (x : FVec Ideal S512x336x21 .f32) (rw rb : FVec Ideal S21 .f32) (w1 : FVec Ideal S336x256 .f32) (w2 : FVec Ideal S256x8 .f32)
    (b : Fin 512) (e : Fin 8) : val_main_v34 (F := Ideal) x rw rb w1 w2 (ix2 b e) = soft (zR x rw rb w1 w2 b) e := by
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_cst_2, val_main_cst_3,
    val_main_cst_4, val_main_cst_5, val_main_cst_6, val_main_call1_cst, val_main_call1_v0]
  simp only [cNegInf, bot_sup_eq]
  rfl

end Cert.ReferenceIdeal.Hand
-- ==== Proof.RowSort.lean ====
/-
  The reference's way to the two greatest entries of a row: a stable sort by the entries, greatest first.
-/
module

public import proofs.«01_k».proof.Proof.Row
public import Idealize.ShloMosaic.Lib.SortFacts

@[expose] public section

noncomputable section

namespace Cert.Math

open Idealize.ShloMosaic

/-- The sort's comparison of two positions. -/
def gtKey (p : Fin 8 → EReal) (k k' : Fin 8) : Bool := (FloatOps.cmpfTotal (F := Ideal) (φ := .f32) .gt (p k) (p k') : BitVec 1) == 1#1

theorem gtKey_iff (p : Fin 8 → EReal) (k k' : Fin 8) : gtKey p k k' = true ↔ p k' < p k := by
  show (BitVec.ofBool (decide (p k' < p k)) == 1#1) = true ↔ _
  by_cases h : p k' < p k <;> simp [h]

open Classical in
/-- The comparison with ties broken by position. -/
def before (p : Fin 8 → EReal) (k k' : Fin 8) : Bool := decide (Before p k k')

theorem before_iff (p : Fin 8 → EReal) (k k' : Fin 8) : before p k k' = true ↔ Before p k k' := by
  classical
  exact decide_eq_true_iff

theorem before_iff_not (p : Fin 8 → EReal) (k k' : Fin 8) : before p k k' = false ↔ ¬ Before p k k' := by
  rw [← before_iff, Bool.not_eq_true]

/-- Over a list of ascending positions the sort never compares a later position first, so breaking ties by position changes nothing. -/
theorem stableSort_before (p : Fin 8 → EReal) (l : List (Fin 8)) (hl : l.Pairwise (· < ·)) :
    stableSort (gtKey p) l = stableSort (before p) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.1 hb)
    refine Bool.eq_iff_iff.2 ((gtKey_iff p b a).trans ?_)
    rw [before_iff]
    exact ⟨Or.inl, fun h => h.elim id fun h => absurd h.2 (not_lt.2 hab.le)⟩

theorem sortedFrom_before (p : Fin 8 → EReal) : sortedFrom (gtKey p) = sortedFrom (before p) := by
  have h : sortPositions 8 (gtKey p) = sortPositions 8 (before p) := stableSort_before p _ (List.pairwise_lt_finRange 8)
  funext k
  unfold sortedFrom
  rw [List.get_of_eq h]
  rfl

theorem Before.total {p : Fin 8 → EReal} {a b : Fin 8} (h : a ≠ b) : Before p a b ∨ Before p b a := by
  rcases lt_trichotomy (p a) (p b) with hp | hp | hp
  · exact Or.inr (Or.inl hp)
  · rcases lt_or_gt_of_ne h with hl | hl
    · exact Or.inl (Or.inr ⟨hp.symm, hl⟩)
    · exact Or.inr (Or.inr ⟨hp, hl⟩)
  · exact Or.inl (Or.inl hp)

/-- Not-before is transitive. -/
theorem before_trans (p : Fin 8 → EReal) (a b c : Fin 8) (h : before p a b = false) (h' : before p b c = false) : before p a c = false := by
  rw [before_iff_not] at *
  rintro (hac | ⟨hac, hl⟩)
  · have hab : p a ≤ p b := not_lt.1 fun hh => h (Or.inl hh)
    have hbc : p b ≤ p c := not_lt.1 fun hh => h' (Or.inl hh)
    exact absurd hac (not_lt.2 (hab.trans hbc))
  · have hab : p a ≤ p b := not_lt.1 fun hh => h (Or.inl hh)
    have hbc : p b ≤ p c := not_lt.1 fun hh => h' (Or.inl hh)
    have e1 : p b = p a := le_antisymm (hbc.trans hac.le) hab
    have e2 : p c = p b := hac.trans e1.symm
    have l1 : ¬ a < b := fun hh => h (Or.inr ⟨e1, hh⟩)
    have l2 : ¬ b < c := fun hh => h' (Or.inr ⟨e2, hh⟩)
    omega

/-- An earlier place of the sorted row holds a position that comes before. -/
theorem sorted_before (p : Fin 8 → EReal) {i j : Fin 8} (hij : i < j) : Before p (sortedFrom (gtKey p) i) (sortedFrom (gtKey p) j) := by
  rw [sortedFrom_before]
  have h := sortedFrom_noInversion (before p) (before p)
    (fun a b h => (before_iff_not p b a).2 fun h' => ((before_iff p a b).1 h).asymm h')
    (fun _ _ h => h) (before_trans p) i j hij
  rw [before_iff_not] at h
  exact (Before.total fun e => hij.ne (sortedFrom_injective _ e)).resolve_right h

/-- The first place of the sorted row. -/
theorem isFst_sorted (p : Fin 8 → EReal) : IsFst p (sortedFrom (gtKey p) 0) := fun k hk => by
  obtain ⟨n, rfl⟩ := sortedFrom_surjective (gtKey p) k
  have hn : n ≠ 0 := fun h => hk (by rw [h])
  exact sorted_before p (Fin.pos_of_ne_zero hn)

/-- The second place of the sorted row. -/
theorem isSnd_sorted (p : Fin 8 → EReal) : IsSnd p (sortedFrom (gtKey p) 0) (sortedFrom (gtKey p) 1) := by
  refine ⟨fun h => absurd (sortedFrom_injective _ h) (by decide), fun k hk hk1 => ?_⟩
  obtain ⟨n, rfl⟩ := sortedFrom_surjective (gtKey p) k
  have hn : n ≠ 0 := fun h => hk (by rw [h])
  have hn1 : n ≠ 1 := fun h => hk1 (by rw [h])
  refine sorted_before p (Fin.lt_def.2 ?_)
  have h0 : n.val ≠ 0 := fun h => hn (Fin.ext h)
  have h1 : n.val ≠ 1 := fun h => hn1 (Fin.ext h)
  show 1 < n.val
  omega

end Cert.Math
-- ==== Proof.GateR.lean ====
/-
  The reference's gates: the two greatest entries of each softmax row by a sort, scattered into a row of zeros.
-/
module

public import proofs.«01_k».proof.Proof.RowsR
public import proofs.«01_k».proof.Proof.RowSort
public import Idealize.ShloMosaic.Lib.ScatterToDense.RefScatter

@[expose] public section

noncomputable section

namespace Cert.ReferenceIdeal.Hand

open Idealize.ShloMosaic
open Cert.ReferenceIdeal.Read Cert.Math
open Idealize.ShloMosaic.Routing (shape2 shape3 wrap_of_lt)
open Idealize.ShloMosaic.ScatterToDense

/-- A coordinate moved along the second axis. -/
theorem along_ix2 (b : Fin 512) (k k' : Fin 8) : Shape.Idx.along (s := S512x8) (ix2 b k) 1 k' = ix2 b k' := by
  funext a
  fin_cases a <;> rfl

/-- The sort of a row with its positions. -/
theorem sort_at (x : FVec Ideal S512x8 .f32) (y : IVec S512x8 32) (b : Fin 512) (k : Fin 8) :
    (Host.sort2 S512x8 1 (fun l r => FloatOps.cmpfTotal (F := Ideal) (φ := .f32) .gt l.1 r.1) x y).1 (ix2 b k)
        = x (ix2 b (sortedFrom (gtKey fun e => x (ix2 b e)) k)) ∧
    (Host.sort2 S512x8 1 (fun l r => FloatOps.cmpfTotal (F := Ideal) (φ := .f32) .gt l.1 r.1) x y).2 (ix2 b k)
        = y (ix2 b (sortedFrom (gtKey fun e => x (ix2 b e)) k)) := by
  unfold Host.sort2
  rw [dif_pos (by decide : 1 < S512x8.rank)]
  have h : ∀ k' : Fin 8, Shape.Idx.along (s := S512x8) (ix2 b k) 1 k' = ix2 b k' := along_ix2 b k
  have hr : (fun k₁ k₂ : Fin 8 => FloatOps.cmpfTotal (F := Ideal) (φ := .f32) .gt (x (Shape.Idx.along (s := S512x8) (ix2 b k) 1 k₁))
      (x (Shape.Idx.along (s := S512x8) (ix2 b k) 1 k₂)) == 1#1) = gtKey fun e => x (ix2 b e) := by
    funext k₁ k₂
    rw [h, h]; rfl
  constructor
  · exact (congrArg x (h _)).trans (congrArg (fun r => x (ix2 b (sortedFrom r k))) hr)
  · exact (congrArg y (h _)).trans (congrArg (fun r => y (ix2 b (sortedFrom r k))) hr)

variable (x : FVec Ideal S512x336x21 .f32) (rw rb : FVec Ideal S21 .f32) (w1 : FVec Ideal S336x256 .f32) (w2 : FVec Ideal S256x8 .f32)

/-- The position in place `k` of the sorted row. -/
def place (b : Fin 512) (k : Fin 8) : Fin 8 := sortedFrom (gtKey (soft (zR x rw rb w1 w2 b))) k

theorem v34_row (b : Fin 512) : (fun e => val_main_v34 (F := Ideal) x rw rb w1 w2 (ix2 b e)) = soft (zR x rw rb w1 w2 b) :=
  funext fun e => v34_at x rw rb w1 w2 b e

/-- The values scattered. -/
def gval (b : Fin 512) (k : ℕ) : EReal :=
  Ideal.div (soft (zR x rw rb w1 w2 b) (place x rw rb w1 w2 b ⟨k % 8, Nat.mod_lt _ (by decide)⟩))
    (soft (zR x rw rb w1 w2 b) (place x rw rb w1 w2 b 0) + soft (zR x rw rb w1 w2 b) (place x rw rb w1 w2 b 1) + Ideal.ofBits .f32 0x358637BD#32)

theorem v42_at (b : Fin 512) (k : Fin 2) : val_main_v42 (F := Ideal) x rw rb w1 w2 (ix2 b k) = gval x rw rb w1 w2 b k.val := by
  pointwise [val_main_v42, val_main_v41, val_main_v40, val_main_v39, val_main_v38, val_main_v37, val_main_v36, val_main_v35, val_main_cst_7,
    val_main_cst_8, val_main_values, Host.topK]
  simp only [(sort_at _ _ b _).1, v34_row, v34_at, Fin.sum_univ_two]
  unfold gval place
  fin_cases k <;> rfl

/-- The columns scattered to. -/
def gcol (b : Fin 512) (k : ℕ) : BitVec 32 := BitVec.ofNat 32 (place x rw rb w1 w2 b ⟨k % 8, Nat.mod_lt _ (by decide)⟩).val

theorem v59_row (b : Fin 512) (k : Fin 2) : val_main_v59 (F := Ideal) x rw rb w1 w2 (ix3 b k 0) = BitVec.ofNat 32 b.val := by
  pointwise [val_main_v59, val_main_v58, val_main_v57, val_main_v56, val_main_v55, val_main_v54, val_main_v53, val_main_v52, val_main_v51,
    val_main_v50, val_main_v49, val_main_v48, val_main_v47, val_main_v46, val_main_v45, val_main_v44, val_main_v36, val_main_c_10, val_main_c_11,
    val_main_c_12, val_main_c_13, val_main_indices, Host.topK]
  exact wrap_of_lt _ _ (by rw [BitVec.toNat_ofNat]; omega)

theorem v59_col (b : Fin 512) (k : Fin 2) : val_main_v59 (F := Ideal) x rw rb w1 w2 (ix3 b k 1) = gcol x rw rb w1 w2 b k.val := by
  pointwise [val_main_v59, val_main_v58, val_main_v57, val_main_v56, val_main_v55, val_main_v54, val_main_v53, val_main_v52, val_main_v51,
    val_main_v50, val_main_v49, val_main_v48, val_main_v47, val_main_v46, val_main_v45, val_main_v44, val_main_v36, val_main_c_10, val_main_c_11,
    val_main_c_12, val_main_c_13, val_main_indices, Host.topK]
  simp only [(sort_at _ _ b _).2, v34_row]
  have hk : (⟨k.val % 8, Nat.mod_lt _ (by decide)⟩ : Fin 8) = ⟨k.val, by omega⟩ := Fin.ext (Nat.mod_eq_of_lt (by omega))
  unfold gcol place
  rw [hk]
  generalize sortedFrom (gtKey (soft (zR x rw rb w1 w2 b))) ⟨k.val, by omega⟩ = p
  exact wrap_of_lt (BitVec.ofNat 32 p.val) _ (by rw [BitVec.toNat_ofNat]; omega)

theorem gcol_toNat (b : Fin 512) (k : ℕ) :
    (gcol x rw rb w1 w2 b k).toNat = (place x rw rb w1 w2 b ⟨k % 8, Nat.mod_lt _ (by decide)⟩).val := by
  unfold gcol
  rw [BitVec.toNat_ofNat]
  omega

theorem v43_at (b : Fin 512) (e : Fin 8) : val_main_v43 (F := Ideal) (ix2 b e) = 0 := by
  pointwise [val_main_v43, val_main_cst_9]

/-- The gates of a row. -/
theorem gates_at (b : Fin 512) : IsGate (soft (zR x rw rb w1 w2 b)) fun e => val_main_v60 (F := Ideal) x rw rb w1 w2 (ix2 b e) := by
  have hs := isSnd_sorted (soft (zR x rw rb w1 w2 b))
  refine Or.inl ⟨_, _, isFst_sorted _, hs, fun e => ?_⟩
  have h := scatter_eq_GS scatter_S512x8_S512x2x2_S512x2_n_01_01_2 rfl rfl rfl (by norm_num) (by norm_num)
    (val_main_v43 (F := Ideal)) (val_main_v59 (F := Ideal) x rw rb w1 w2) (val_main_v42 (F := Ideal) x rw rb w1 w2) (gcol x rw rb w1 w2)
    (gval x rw rb w1 w2) (v59_row x rw rb w1 w2) (v59_col x rw rb w1 w2) (v42_at x rw rb w1 w2) b e
  refine h.trans ?_
  rw [GS_succ, GS_succ, GS_zero, gcol_toNat, gcol_toNat]
  have h0 : place x rw rb w1 w2 b ⟨0 % 8, Nat.mod_lt _ (by decide)⟩ = sortedFrom (gtKey (soft (zR x rw rb w1 w2 b))) 0 := rfl
  have h1 : place x rw rb w1 w2 b ⟨1 % 8, Nat.mod_lt _ (by decide)⟩ = sortedFrom (gtKey (soft (zR x rw rb w1 w2 b))) 1 := rfl
  unfold gval gateAt
  rw [h0, h1]
  simp only [← Fin.ext_iff]
  by_cases he : e = sortedFrom (gtKey (soft (zR x rw rb w1 w2 b))) 0
  · rw [if_neg (fun h' => hs.1 (h'.symm.trans he)), if_pos he, if_pos he]; rfl
  · rw [if_neg he, if_neg he]
    by_cases he1 : e = sortedFrom (gtKey (soft (zR x rw rb w1 w2 b))) 1
    · rw [if_pos he1, if_pos he1]; rfl
    · rw [if_neg he1, if_neg he1]; exact v43_at b e

end Cert.ReferenceIdeal.Hand
-- ==== Proof.TrendR.lean ====
/-
  The reference's moving average: the padded rows, their running sums, and the difference of two of them.
-/
module

public import proofs.«01_k».proof.Proof.RowsR
public import proofs.«01_k».proof.Proof.Trend

@[expose] public section

noncomputable section

namespace Cert.ReferenceIdeal.Hand

open Idealize.ShloMosaic
open Cert.ReferenceIdeal.Read Cert.Math

/-- Adding up a list from a start. -/
theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window of the running sum. -/
abbrev S1x360x1 : Shape := ⟨3, ![1, 360, 1]⟩

/-- Its places along the first axis. -/
theorem place_zero (n : Fin S1x360x1.numel) : (S1x360x1.rowMajor.symm n 0).val = 0 :=
  Nat.lt_one_iff.1 (S1x360x1.rowMajor.symm n 0).isLt

/-- Its places along the last axis. -/
theorem place_two (n : Fin S1x360x1.numel) : (S1x360x1.rowMajor.symm n 2).val = 0 :=
  Nat.lt_one_iff.1 (S1x360x1.rowMajor.symm n 2).isLt

/-- Its places along the steps. -/
theorem place_one (n : Fin S1x360x1.numel) : (S1x360x1.rowMajor.symm n 1).val = n.val := by
  have h : n.val = (S1x360x1.rowMajor (S1x360x1.rowMajor.symm n)).val := by rw [Equiv.apply_symm_apply]
  rw [Shape.rowMajor_val_three, place_zero, place_two] at h
  change n.val = (0 * 360 + (S1x360x1.rowMajor.symm n 1).val) * 1 + 0 at h
  omega

/-- The places of the window that lie inside the row, from the far end. -/
theorem sum_window (Y : ℕ → EReal) (q : ℕ) (hq : q < 360) :
    ∑ n ∈ Finset.range 360, (if 359 ≤ q + n then Y (q + n - 359) else 0) = ∑ p ∈ Finset.range (q + 1), Y p := by
  rw [show (360 : ℕ) = (359 - q) + (q + 1) by omega, Finset.sum_range_add]
  rw [Finset.sum_eq_zero fun n hn => if_neg (by have := Finset.mem_range.1 hn; omega), zero_add]
  refine Finset.sum_congr rfl fun i _ => ?_
  rw [if_pos (by omega)]
  congr 1
  omega

/-- The running sum of a padded row. -/
theorem cumsum_at (x : FVec Ideal S512x360x21 .f32) (init : FVec Ideal S_ .f32) (hinit : ∀ i, init i = 0)
    (h : S512x360x21.ReduceWindows ![1, 360, 1] ![1, 1, 1] ![0, 359, 0] ![0, 0, 0] S512x360x21) (hu : 0 < S_.numel)
    (b : Fin 512) (q : Fin 360) (c : Fin 21) (Y : ℕ → EReal) (hY : ∀ p : Fin 360, x (ix3 b p c) = Y p.val) :
    Host.reduceWindowAdd (F := Ideal) ![1, 360, 1] ![1, 1, 1] ![0, 359, 0] ![0, 0, 0] x init h hu (ix3 b q c)
      = ∑ p ∈ Finset.range (q.val + 1), Y p := by
  show Host.reduceWindow (· + ·) ![1, 360, 1] ![1, 1, 1] ![0, 359, 0] ![0, 0, 0] x (fun _ : (⟨0, ![]⟩ : Shape).Idx => init (Shape.Idx.first hu)) h
    (by decide) (ix3 b q c) = _
  rw [hinit]
  unfold Host.reduceWindow
  refine (foldl_add _ _ _).trans ?_
  rw [zero_add, ← sum_window Y q.val q.isLt, ← Fin.sum_univ_def, Finset.sum_range]
  have hN : S1x360x1.numel = 360 := by decide
  refine Fintype.sum_equiv (finCongr hN) _ _ fun n => ?_
  have hn : n.val < 360 := Nat.lt_of_lt_of_eq n.isLt hN
  have hq := q.isLt
  show _ = if 359 ≤ q.val + n.val then Y (q.val + n.val - 359) else 0
  dsimp only
  split
  · next hin =>
    have h1 := hin 1
    change 359 ≤ q.val * 1 + (S1x360x1.rowMajor.symm n 1).val ∧ q.val * 1 + (S1x360x1.rowMajor.symm n 1).val - 359 < 360 at h1
    rw [place_one] at h1
    rw [if_pos (by omega)]
    refine (congrArg x (funext fun a => Fin.ext ?_)).trans (hY ⟨q.val + n.val - 359, by omega⟩)
    match a with
    | ⟨0, _⟩ =>
      show b.val * 1 + (S1x360x1.rowMajor.symm n 0).val - 0 = b.val
      rw [place_zero]; omega
    | ⟨1, _⟩ =>
      show q.val * 1 + (S1x360x1.rowMajor.symm n 1).val - 359 = q.val + n.val - 359
      rw [place_one]; omega
    | ⟨2, _⟩ =>
      show c.val * 1 + (S1x360x1.rowMajor.symm n 2).val - 0 = c.val
      rw [place_two]; omega
  · next hin =>
    refine (if_neg fun hle => hin fun a => ?_).symm
    match a with
    | ⟨0, _⟩ =>
      show 0 ≤ b.val * 1 + (S1x360x1.rowMajor.symm n 0).val ∧ b.val * 1 + (S1x360x1.rowMajor.symm n 0).val - 0 < 512
      rw [place_zero]; omega
    | ⟨1, _⟩ =>
      show 359 ≤ q.val * 1 + (S1x360x1.rowMajor.symm n 1).val ∧ q.val * 1 + (S1x360x1.rowMajor.symm n 1).val - 359 < 360
      rw [place_one]; omega
    | ⟨2, _⟩ =>
      show 0 ≤ c.val * 1 + (S1x360x1.rowMajor.symm n 2).val ∧ c.val * 1 + (S1x360x1.rowMajor.symm n 2).val - 0 < 21
      rw [place_two]; omega

/-- The padded rows. -/
theorem v86_at (x : FVec Ideal S512x336x21 .f32) (rw rb : FVec Ideal S21 .f32) (b : Fin 512) (p : Fin 360) (c : Fin 21) :
    val_main_v86 (F := Ideal) x rw rb (ix3 b p c) = val_main_v17 (F := Ideal) x rw rb (ix3 b (clip p.val) c) := by
  pointwise [val_main_v86, val_main_v85, val_main_v84, val_main_v83, val_main_v82, val_main_v81, val_main_v80]
  split
  · exact congrArg (fun l => val_main_v17 (F := Ideal) x rw rb (ix3 b l c)) (Fin.ext (by show 0 = min 335 (p.val - 12); omega))
  · split
    · exact congrArg (fun l => val_main_v17 (F := Ideal) x rw rb (ix3 b l c)) (Fin.ext (by show p.val - 12 = min 335 (p.val - 12); omega))
    · exact congrArg (fun l => val_main_v17 (F := Ideal) x rw rb (ix3 b l c)) (Fin.ext (by show 335 = min 335 (p.val - 12); omega))

/-- The moving average, of finite entries. -/
theorem v95_at (x : FVec Ideal S512x336x21 .f32) (rw rb : FVec Ideal S21 .f32) (b : Fin 512) (j : Fin 336) (c : Fin 21)
    (X : Fin 336 → ℝ) (hx : ∀ l, val_main_v17 (F := Ideal) x rw rb (ix3 b l c) = (X l : EReal)) :
    val_main_v95 (F := Ideal) x rw rb (ix3 b j c) = ((trend X j : ℝ) : EReal) := by
  have h87 : ∀ q : Fin 360, val_main_v87 (F := Ideal) x rw rb (ix3 b q c) = ((∑ p ∈ Finset.range (q.val + 1), X (clip p) : ℝ) : EReal) := fun q => by
    unfold val_main_v87
    rw [cumsum_at _ _ (fun i => by pointwise [val_main_call4_call0_v0, val_main_call4_call0_cst]) _ _ b q c (fun p => ((X (clip p) : ℝ) : EReal))
      (fun p => (v86_at x rw rb b p c).trans (hx _))]
    exact (map_sum (⟨⟨Real.toEReal, rfl⟩, fun _ _ => rfl⟩ : ℝ →+ EReal) _ _).symm
  pointwise [val_main_v95, val_main_v94, val_main_v93, val_main_v92, val_main_v91, val_main_v90, val_main_v89, val_main_v88, val_main_cst_25, val_main_cst_26]
  have hj := j.isLt
  rw [dif_neg (by omega), h87, ← trend_eq, c25]
  have hlo : (if h : j.val < 1 then (0 : EReal) else val_main_v87 (F := Ideal) x rw rb (ix3 b ⟨j.val - 1, by omega⟩ c))
      = ((∑ p ∈ Finset.range j.val, X (clip p) : ℝ) : EReal) := by
    split_ifs with h
    · rw [show j.val = 0 by omega]; rfl
    · rw [h87]
      rw [show (⟨j.val - 1, by omega⟩ : Fin 360).val + 1 = j.val by show j.val - 1 + 1 = j.val; omega]
  rw [show (⟨25 + j.val - 1, by omega⟩ : Fin 360).val + 1 = j.val + 25 by show 25 + j.val - 1 + 1 = j.val + 25; omega]
  refine (congrArg (fun z => Ideal.div (_ - z) _) hlo).trans ?_
  rw [← EReal.coe_sub, div_real _ _ (by norm_num)]

end Cert.ReferenceIdeal.Hand
-- ==== Proof.Agree.lean ====
/-
  One row of the batch, as a grid step and the reference compute it: the same norms, logits, gates and result.
-/
module

public import proofs.«01_k».proof.Proof.NormK
public import proofs.«01_k».proof.Proof.GateK
public import proofs.«01_k».proof.Proof.GateR
public import proofs.«01_k».proof.Proof.TrendR

@[expose] public section

noncomputable section

namespace Cert.Agree

open Idealize.ShloMosaic Cert.Math
open Cert.KernelIdeal.Gen Cert.ReferenceIdeal.Read
open Cert.KernelIdeal (S64x21x336 S21 S336x256 S256x8 S512x336x21 S8x256 S1344x64 S8x336x256 S8x256x336 S64x8)
open Cert.KernelIdeal.Hand (gOut yOut zK spread share)
open Cert.ReferenceIdeal.Hand (zR)

/-- Every entry is real. -/
def Finite {S : Shape} (x : FVec Ideal S .f32) : Prop := ∀ y, ∃ r : ℝ, x y = (r : EReal)

theorem Finite.eq {S : Shape} {x : FVec Ideal S .f32} (h : Finite x) (y : S.Idx) : x y = ((EReal.toReal (x y) : ℝ) : EReal) := by
  obtain ⟨r, hr⟩ := h y
  rw [hr, EReal.toReal_coe]

variable (xb : FVec Ideal S64x21x336 .f32) (x : FVec Ideal S512x336x21 .f32) (rw rb : FVec Ideal S21 .f32) (w1 : FVec Ideal S336x256 .f32)
  (w2 : FVec Ideal S256x8 .f32) (b : Fin 64) (R : Fin 512)

/-- One channel of a row, normalised. -/
def row (k : Fin 21) : Fin 336 → ℝ :=
  norm (fun l => x (ix3 R l k)) (EReal.toReal (rw (ix1 k))) (EReal.toReal (rb (ix1 k)))

variable {xb x rw rb b R} (hB : ∀ k l, xb (ix3 b k l) = x (ix3 R l k)) (hw : Finite rw) (hb : Finite rb)

include hB hw hb in
theorem norm_k (k : Fin 21) (l : Fin 336) : k0_pay12 (F := Ideal) xb rw rb (ix3 b k l) = ((row x rw rb R k l : ℝ) : EReal) := by
  rw [Cert.KernelIdeal.Hand.pay12_at xb rw rb b k l _ _ (hw.eq _) (hb.eq _)]
  simp only [hB]
  rfl

include hw hb in
theorem norm_r (k : Fin 21) (l : Fin 336) : val_main_v17 (F := Ideal) x rw rb (ix3 R l k) = ((row x rw rb R k l : ℝ) : EReal) :=
  Cert.ReferenceIdeal.Hand.v17_at x rw rb R l k _ _ (hw.eq _) (hb.eq _)

include hB hw hb in
/-- The logits agree. -/
theorem logits : zK (k0_pay13 (F := Ideal) xb rw rb w1) w2 b = zR x rw rb w1 w2 R := by
  funext e
  unfold zK zR logit
  refine Finset.sum_congr rfl fun k _ => ?_
  rw [Cert.KernelIdeal.Hand.pay13_at]
  simp only [norm_k hB hw hb, norm_r hw hb]

include hB hw hb in
/-- The gates agree. -/
theorem gates (e : Fin 8) : gOut (F := Ideal) xb rw rb w1 w2 (ix2 b e) = val_main_v60 (F := Ideal) x rw rb w1 w2 (ix2 R e) := by
  have h : gOut (F := Ideal) xb rw rb w1 w2 (ix2 b e) = minGate (soft (zK (k0_pay13 (F := Ideal) xb rw rb w1) w2 b)) e :=
    Cert.KernelIdeal.Hand.gates_at _ _ _ _
  rw [h, logits w1 w2 hB hw hb]
  exact congrFun (IsGate.unique (isGate_minGate _) (Cert.ReferenceIdeal.Hand.gates_at x rw rb w1 w2 R)) e

/-- Spreading the gates over the channels gives each row its own gates. -/
theorem spread_eq (rep : FVec Ideal S1344x64 .f32) (g : Vec Ideal S64x8 .f32) (b : Fin 64) (k : Fin 21) (e : Fin 8)
    (hrep : ∀ r b, rep (ix2 r b) = (if r.val / 21 = b.val then 1 else 0 : EReal)) : spread rep g b k e = g (ix2 b e) := by
  unfold spread
  rw [Finset.sum_eq_single b]
  · rw [hrep, if_pos (by show (b.val * 21 + k.val) / 21 = b.val; omega)]
    exact one_mul _
  · intro j _ hj
    rw [hrep, if_neg (fun h => hj (Fin.ext (by have h : (b.val * 21 + k.val) / 21 = j.val := h; omega)))]
    exact zero_mul _
  · exact fun h => absurd (Finset.mem_univ _) h

include hB hw hb in
/-- One expert's share, of the folded weights, is the season's part and the trend's part. -/
theorem share_eq (ws wt : FVec Ideal S8x256x336 .f32) (g : FVec Ideal Cert.KernelIdeal.S336x672 .f32) (hws : Finite ws) (hwt : Finite wt)
    (h1 : ∀ l j : Fin 336, g (ix2 l ⟨j.val, by omega⟩) = (((25 * (if l = j then 1 else 0) - hits l j) / 25 : ℝ) : EReal))
    (h2 : ∀ l j : Fin 336, g (ix2 l ⟨336 + j.val, by omega⟩) = ((hits l j / 25 : ℝ) : EReal)) (k : Fin 21) (d : Fin 256) (e : Fin 8) :
    share xb rw rb (Cert.KernelIdeal.Hand.weff (F := Ideal) ws wt g) b k d e
      = ((∑ j, (row x rw rb R k j - trend (row x rw rb R k) j) * EReal.toReal (ws (ix3 e d j)) : ℝ) : EReal)
        + ((∑ j, trend (row x rw rb R k) j * EReal.toReal (wt (ix3 e d j)) : ℝ) : EReal) := by
  unfold share
  rw [← EReal.coe_add, ← fold_eq, ← coe_sum]
  refine Finset.sum_congr rfl fun l _ => ?_
  rw [norm_k hB hw hb, Cert.KernelIdeal.Hand.weff_at, EReal.coe_mul, EReal.coe_add, ← coe_sum, ← coe_sum]
  refine congrArg₂ (· * ·) rfl (congrArg₂ (· + ·) (Finset.sum_congr rfl fun j _ => ?_) (Finset.sum_congr rfl fun j _ => ?_))
  · rw [h1, EReal.coe_mul]; exact congrArg₂ (· * ·) rfl (hws.eq _)
  · rw [h2, EReal.coe_mul]; exact congrArg₂ (· * ·) rfl (hwt.eq _)

/-- A gate taken out of one expert's answer. -/
theorem gate_out {g : EReal} (hg : ∃ r : ℝ, 0 ≤ r ∧ g = (r : EReal)) (p q s t : EReal) :
    g * (p + q) + g * (s + t) = (s + p + t + q) * g := by
  obtain ⟨r, hr, rfl⟩ := hg
  rw [← EReal.left_distrib_of_nonneg_of_ne_top (by exact_mod_cast hr) (EReal.coe_ne_top r), mul_comm]
  congr 1
  rw [add_assoc (s + p), add_comm (p + q), add_add_add_comm]

include hB hw hb in
/-- The results agree. -/
theorem result (ws wt : FVec Ideal S8x256x336 .f32) (bs bt : FVec Ideal S8x256 .f32) (g : FVec Ideal Cert.KernelIdeal.S336x672 .f32)
    (rep : FVec Ideal S1344x64 .f32) (hws : Finite ws) (hwt : Finite wt)
    (h1 : ∀ l j : Fin 336, g (ix2 l ⟨j.val, by omega⟩) = (((25 * (if l = j then 1 else 0) - hits l j) / 25 : ℝ) : EReal))
    (h2 : ∀ l j : Fin 336, g (ix2 l ⟨336 + j.val, by omega⟩) = ((hits l j / 25 : ℝ) : EReal))
    (hrep : ∀ r b, rep (ix2 r b) = (if r.val / 21 = b.val then 1 else 0 : EReal)) (k : Fin 21) (d : Fin 256) :
    yOut (F := Ideal) xb rw rb w1 w2 bs bt rep (Cert.KernelIdeal.Hand.weff (F := Ideal) ws wt g) (ix3 b k d)
      = val_main_v112 (F := Ideal) x rw rb w1 w2 ws bs wt bt (ix3 R k d) := by
  rw [Cert.KernelIdeal.Hand.yOut_at, ← Finset.sum_add_distrib]
  pointwise [val_main_v112, val_main_v111, val_main_v110, val_main_v109, val_main_v108, val_main_v107, val_main_v106, val_main_v105, val_main_v104,
    val_main_v103, val_main_v102, val_main_v101, val_main_v100, val_main_v99, val_main_v98, val_main_v97, val_main_v96]
  refine Finset.sum_congr rfl fun e _ => ?_
  rw [spread_eq rep _ b k e hrep, gates w1 w2 hB hw hb e, share_eq hB hw hb ws wt g hws hwt h1 h2 k d e,
    gate_out ((Cert.ReferenceIdeal.Hand.gates_at x rw rb w1 w2 R).real e), ← coe_sum, ← coe_sum]
  have ht : ∀ j, val_main_v95 (F := Ideal) x rw rb (ix3 R j k) = ((trend (row x rw rb R k) j : ℝ) : EReal) := fun j =>
    Cert.ReferenceIdeal.Hand.v95_at x rw rb R j k _ fun l => norm_r hw hb k l
  have hs : ∀ j, ((((row x rw rb R k j - trend (row x rw rb R k) j) * EReal.toReal (ws (ix3 e d j)) : ℝ)) : EReal)
      = (val_main_v17 (F := Ideal) x rw rb (ix3 R j k) - val_main_v95 (F := Ideal) x rw rb (ix3 R j k)) * ws (ix3 e d j) := fun j => by
    rw [norm_r hw hb, ht, EReal.coe_mul, EReal.coe_sub, ← hws.eq]
  have hr : ∀ j, ((trend (row x rw rb R k) j * EReal.toReal (wt (ix3 e d j)) : ℝ) : EReal)
      = val_main_v95 (F := Ideal) x rw rb (ix3 R j k) * wt (ix3 e d j) := fun j => by
    rw [ht, EReal.coe_mul, ← hwt.eq]
  simp only [hs, hr]

end Cert.Agree
-- ==== Proof.Loss.lean ====
/-
  The loss of a table of gates, as the kernel and the reference compute it: the squared variation of the columns' sums and of their counts.
-/
module

public import proofs.«01_k».proof.Proof.Out
public import proofs.«01_k».proof.Proof.RowsR
public import Idealize.ShloMosaic.Lib.IndicatorCount

@[expose] public section

noncomputable section

namespace Cert.Math

open Idealize.ShloMosaic

/-- The variance of eight numbers over the square of their mean. -/
def variation (a : Fin 8 → EReal) : EReal :=
  Ideal.div
    (Ideal.div (∑ x, (a x - Ideal.div (∑ k, a k) (Ideal.ofBits .f32 0x41000000#32)) * (a x - Ideal.div (∑ k, a k) (Ideal.ofBits .f32 0x41000000#32)))
      (Ideal.ofBits .f32 0x40E00000#32))
    (Ideal.div (∑ k, a k) (Ideal.ofBits .f32 0x41000000#32) * Ideal.div (∑ k, a k) (Ideal.ofBits .f32 0x41000000#32) + Ideal.ofBits .f32 0x2EDBE6FF#32)

/-- How many rows of a column are above zero. -/
def count (g : Fin 512 → EReal) : EReal := ∑ r, FloatOps.sitofp (F := Ideal) .f32 (BitVec.setWidth 32 (BitVec.ofBool (decide (0 < g r))))

/-- The rows above zero, counted in integers. -/
theorem count_eq (g : Fin 512 → EReal) :
    FloatOps.sitofp (F := Ideal) .f32 (Finset.univ.fold IntOp.addi 0#32 fun r => BitVec.setWidth 32 (BitVec.ofBool (decide (0 < g r)))) = count g := by
  have hone : ∀ r : Fin 512, FloatOps.sitofp (F := Ideal) .f32 (BitVec.setWidth 32 (BitVec.ofBool (decide (0 < g r))))
      = ((if BitVec.ofBool (decide (0 < g r)) = 1#1 then 1 else 0 : ℝ) : EReal) := by
    intro r
    by_cases h : 0 < g r
    · simpa [h] using sitofp_one
    · simpa [h] using sitofp_zero
  have hcard : (Finset.univ.filter fun r : Fin 512 => BitVec.ofBool (decide (0 < g r)) = 1#1).card ≤ 512 :=
    (Finset.card_le_univ _).trans (by simp)
  rw [IndicatorCount.fold_addi_setWidth_eq_card (fun r : Fin 512 => BitVec.ofBool (decide (0 < g r)))]
  unfold count
  rw [Finset.sum_congr rfl fun r _ => hone r, coe_sum, Finset.sum_boole]
  generalize (Finset.univ.filter fun r : Fin 512 => BitVec.ofBool (decide (0 < g r)) = 1#1).card = n at hcard
  show ((((BitVec.ofNat 32 n).toInt : ℤ) : ℝ) : EReal) = ((n : ℝ) : EReal)
  have hn : (BitVec.ofNat 32 n).toInt = (n : ℤ) := by
    rw [BitVec.toInt_eq_toNat_cond, BitVec.toNat_ofNat]
    split <;> omega
  rw [hn, Int.cast_natCast]

/-- One less than the number of experts, as the reference takes it from two words. -/
theorem eight_sub_one : (Ideal.ofBits .f32 0x41000000#32 - FloatOps.sitofp (F := Ideal) .f32 (1#32 : BitVec 32) : EReal) = Ideal.ofBits .f32 0x40E00000#32 := by
  rw [sitofp_one, c8, c7, ← EReal.coe_one, ← EReal.coe_sub]
  norm_num

theorem seven_pos : (0 : EReal) < Ideal.ofBits .f32 0x40E00000#32 := by
  rw [c7]
  exact_mod_cast (by norm_num : (0 : ℝ) < 7)

end Cert.Math

namespace Cert.KernelIdeal.Hand

open Idealize.ShloMosaic
open Cert.KernelIdeal.Gen Cert.Math

/-- The kernel's loss. -/
theorem loss_at (g : FVec Ideal S512x8 .f32) :
    k0_pay10 (F := Ideal) g = variation (fun x => ∑ r : Fin 512, g (ix2 r x)) + variation fun x => count fun r => g (ix2 r x) := by
  pointwise [k0_pay10]
  rfl

end Cert.KernelIdeal.Hand

namespace Cert.ReferenceIdeal.Hand

open Idealize.ShloMosaic
open Cert.ReferenceIdeal.Read Cert.Math

/-- The reference's loss. -/
theorem loss_at (x : FVec Ideal S512x336x21 .f32) (rw rb : FVec Ideal S21 .f32) (w1 : FVec Ideal S336x256 .f32) (w2 : FVec Ideal S256x8 .f32)
    (j : S1x1.Idx) :
    val_main_v113 (F := Ideal) x rw rb w1 w2 j
      = variation (fun e => ∑ r : Fin 512, val_main_v60 (F := Ideal) x rw rb w1 w2 (ix2 r e))
        + variation fun e => count fun r => val_main_v60 (F := Ideal) x rw rb w1 w2 (ix2 r e) := by
  pointwise [val_main_v113, val_main_v79, val_main_v78, val_main_v77, val_main_cst_24, val_main_v76, val_main_v75, val_main_cst_23, val_main_v74,
    val_main_cst_22, val_main_v73, val_main_call3_call0_v0, val_main_call3_cst_4, val_main_call3_v11, val_main_call3_cst_3, val_main_call3_v10,
    val_main_call3_v9, val_main_call3_cst_2, val_main_call3_v8, val_main_call3_cst_1, val_main_call3_v7, val_main_call3_v6, val_main_call3_v5,
    val_main_call3_v4, val_main_call3_v3, val_main_call3_v2, val_main_call3_cst_0, val_main_call3_v1, val_main_call3_v0, val_main_call3_cst,
    val_main_c_21, val_main_v72, val_main_v71, val_main_cst_20, val_main_v70, val_main_v69, val_main_cst_19, val_main_v68, val_main_cst_18,
    val_main_v67, val_main_call2_call0_v0, val_main_call2_cst_4, val_main_call2_v11, val_main_call2_cst_3, val_main_call2_v10,
    val_main_call2_v9, val_main_call2_cst_2, val_main_call2_v8, val_main_call2_cst_1, val_main_call2_v7, val_main_call2_v6, val_main_call2_v5,
    val_main_call2_v4, val_main_call2_v3, val_main_call2_v2, val_main_call2_cst_0, val_main_call2_v1, val_main_call2_v0, val_main_call2_cst,
    val_main_c_17, val_main_v66, val_main_v65, val_main_c_16, val_main_v64, val_main_v63, val_main_v62, val_main_cst_15, val_main_v61,
    val_main_cst_14]
  simp only [eight_sub_one, if_pos seven_pos]
  unfold variation
  simp only [← count_eq]
  congr 1

end Cert.ReferenceIdeal.Hand
-- ==== Proof.Result.lean ====
/-
  The kernel's two results are the reference's, of finite arguments.
-/
module

public import proofs.«01_k».proof.Proof.Blocks
public import proofs.«01_k».proof.Proof.Agree
public import proofs.«01_k».proof.Proof.Loss

@[expose] public section

noncomputable section

namespace Cert.KernelIdeal.Hand

open Idealize.ShloMosaic
open Cert.KernelIdeal.Gen Cert.Math Cert.Agree
open Cert.ReferenceIdeal.Read (val_main_v60 val_main_v112 val_main_v113)

variable (m : (ℓ : Loc nD τ sig) → Buf (Elt Ideal) ℓ) (c : Dev nD)

/-- The arguments that have to be finite: the scale and shift of the normalisation, and the two weights. -/
structure FiniteArgs : Prop where
  rw : Finite (S := S21) (m ((c.tc : Thread nD τ).loc main_arg1))
  rb : Finite (S := S21) (m ((c.tc : Thread nD τ).loc main_arg2))
  ws : Finite (S := S8x256x336) (m ((c.tc : Thread nD τ).loc main_arg5))
  wt : Finite (S := S8x256x336) (m ((c.tc : Thread nD τ).loc main_arg7))

/-- A row of the batch is its own row of its own block. -/
theorem rowOf_tRow (R : Fin 512) (h : R.val % 64 < 64) : rowOf (tRow R) ⟨R.val % 64, h⟩ = R :=
  Fin.ext (by show R.val / 64 * 64 + R.val % 64 = R.val; omega)

/-- The input's block holds the row. -/
theorem blk_row (R : Fin 512) (h : R.val % 64 < 64) (k : Fin 21) (l : Fin 336) :
    (iblk m c 0 (tRow R) : FVec Ideal S64x21x336 .f32) (ix3 ⟨R.val % 64, h⟩ k l) = m ((c.tc : Thread nD τ).loc main_arg0) (ix3 R l k) := by
  rw [blk_0 m c, rowOf_tRow]

/-- The gates are the reference's. -/
theorem gates_eq (hf : FiniteArgs m c) (R : Fin 512) (e : Fin 8) :
    GG m c (ix2 R e) = val_main_v60 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (ix2 R e) := by
  show gAt m c (tRow R) (ix2 ⟨R.val % 64, _⟩ e) = _
  unfold gAt
  rw [blk_1 m c, blk_2 m c, blk_3 m c, blk_4 m c]
  exact Cert.Agree.gates _ _ (blk_row m c R _) hf.rw hf.rb e

/-- The first result is the reference's. -/
theorem y_eq (hf : FiniteArgs m c) :
    YY m c = val_main_v112 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  funext y
  have hy : y = ix3 (y 0) (y 1) (y 2) := by funext a; fin_cases a <;> rfl
  show yAt m c (tRow (y 0)) (ix3 ⟨(y 0).val % 64, _⟩ (y 1) (y 2)) = _
  unfold yAt WW
  rw [blk_1 m c, blk_2 m c, blk_3 m c, blk_4 m c, blk_5 m c, blk_6 m c, blk_7 m c, blk_8 m c, blk_9 m c, blk_10 m c]
  refine (Cert.Agree.result _ _ (blk_row m c (y 0) _) hf.rw hf.rb _ _ _ _ _ _ hf.ws hf.wt (fold_fst m c) (fold_snd m c) (rep_at m c)
    (y 1) (y 2)).trans ?_
  exact congrArg _ hy.symm

/-- The second result is the reference's. -/
theorem loss_eq (hf : FiniteArgs m c) (j : S1x1.Idx) :
    k0_pay10 (GG m c) = val_main_v113 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) j := by
  refine (loss_at (GG m c)).trans ((Cert.ReferenceIdeal.Hand.loss_at _ _ _ _ _ j).trans ?_).symm
  simp only [gates_eq m c hf]

end Cert.KernelIdeal.Hand
-- ==== Proof.PreRead.lean ====
/-
  What the precondition says of the arguments: that the scale and shift of the normalisation and the two weights have real entries.
-/
module

public import proofs.«01_k».proof.Defs
public import proofs.«01_k».proof.Proof.Result

@[expose] public section

noncomputable section

namespace Cert.Pre_finite_inputs

open Idealize.ShloMosaic Cert.Math

/-- The shapes the predicate broadcasts to. -/
theorem facts : Facts := ⟨by decide, by decide⟩

/-- An extended real whose size compares below infinity is real. -/
theorem real_of_lt {a : EReal} (h : BitVec.ofBool (decide (max a (-a) < Ideal.ofBits .f32 0x7F800000#32)) = 1#1) : ∃ r : ℝ, a = (r : EReal) := by
  rw [cInf] at h
  have h' : max a (-a) < ⊤ := by
    by_contra hn
    simp [hn] at h
  induction a using EReal.rec with
  | bot => simp at h'
  | top => simp at h'
  | coe r => exact ⟨r, rfl⟩

/-- The precondition makes the arguments finite. -/
theorem finiteArgs (m : (ℓ : Loc Cert.KernelIdeal.nD Cert.KernelIdeal.τ Cert.KernelIdeal.sig) → Buf (Elt Ideal) ℓ)
    (h : Cert.Pre_KernelIdeal_finite_inputs (hPre_finite_inputs := facts) m) (c : Dev Cert.KernelIdeal.nD) : Cert.KernelIdeal.Hand.FiniteArgs m c where
  rw y := real_of_lt (congrFun (h c).1 y)
  rb y := real_of_lt (congrFun (h c).2.1 y)
  ws y := real_of_lt (congrFun (h c).2.2.1 y)
  wt y := real_of_lt (congrFun (h c).2.2.2 y)

end Cert.Pre_finite_inputs
-- ==== Proof.Algebraic.lean ====
/-
  The kernel and the reference, run from memories that agree on the arguments, end with equal results.
-/
module

public import proofs.«01_k».proof.Proof.PreRead
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.KernelIdeal.Hand

open Idealize.ShloMosaic Idealize.SL.Sem
open Cert.KernelIdeal.Gen
open Cert.ReferenceIdeal.Read (val_main_v112_eq val_main_v113_eq)

/-- Equal results, of finite arguments. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hpre hag
  refine ⟨fun c => YY m c, fun c => fun _ => k0_pay10 (GG m c), (θ_run _ _ _).mono (fun r h c => ⟨result_y m h.1 c, result_loss m h.1 c, args_unchanged m (rdat m) (A_eq m) h.1 c⟩) (run_arrays m g),
    (θ_run _ _ _).mono (fun r h c => ?_) (Cert.ReferenceIdeal.Value.run m' g')⟩
  have hf := Cert.Pre_finite_inputs.finiteArgs m hpre c
  obtain ⟨h0, h1, h2, h3, h4, h5, h6, h7, h8⟩ := hag c
  refine ⟨(h c).1.trans ((val_main_v112_eq (StableHlo.launchContents m' c)).trans ?_),
    (h c).2.1.trans ((val_main_v113_eq (StableHlo.launchContents m' c)).trans ?_), (h c).2.2⟩
  · refine Eq.trans ?_ (y_eq m c hf).symm
    rw [← h0, ← h1, ← h2, ← h3, ← h4, ← h5, ← h6, ← h7, ← h8]
  · funext j
    refine Eq.trans ?_ (loss_eq m c hf j).symm
    rw [← h0, ← h1, ← h2, ← h3, ← h4]

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Xfer
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.facts,
  fun m ρ _ => Cert.KernelIdeal.Hand.frame_printed m ρ, fun m ρ _ => Cert.KernelIdeal.Hand.frame m ρ,
  fun m ρ _ => Cert.KernelIdeal.Hand.frame m ρ,
  fun m ρ _ => (θ_run _ _ _).mono (fun r h => ⟨fun c => (h c).2.2, sem_eq_zero_of_no_sems rfl r.2⟩)
    (Cert.ReferenceIdeal.Value.run m ρ),
  fun m ρ _ => (θ_run _ _ _).mono (fun r h => ⟨fun c => (h c).2.2, sem_eq_zero_of_no_sems rfl r.2⟩)
    (Cert.ReferenceIdeal.Value.run m ρ), trivial, Cert.KernelIdeal.Hand.algebraic⟩

end Cert.Proof

end
